-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_within_capacity_KernelIdeal [hPre_finite_and_within_capacity_KernelIdeal : Cert.Pre_finite_and_within_capacity_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_within_capacity_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_and_within_capacity_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_and_within_capacity_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_within_capacity_ReferenceIdeal [hPre_finite_and_within_capacity_ReferenceIdeal : Cert.Pre_finite_and_within_capacity_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_within_capacity_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_and_within_capacity_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_and_within_capacity_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_and_within_capacity_KernelIdeal [hKernelIdeal : Cert.KernelIdeal.Facts] [hPre_finite_and_within_capacity_KernelIdeal : Cert.Pre_finite_and_within_capacity_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_within_capacity_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_and_within_capacity_ReferenceIdeal [hReferenceIdeal : Cert.ReferenceIdeal.Facts] [hPre_finite_and_within_capacity_ReferenceIdeal : Cert.Pre_finite_and_within_capacity_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_within_capacity_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_and_within_capacity_KernelIdeal [hKernelIdeal : Cert.KernelIdeal.Facts] [hReferenceIdeal : Cert.ReferenceIdeal.Facts] [hPre_finite_and_within_capacity_KernelIdeal : Cert.Pre_finite_and_within_capacity_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_within_capacity_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 512, 1024]⟩ ⟨3, ![64, 512, 1024]⟩ 0 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = Layout.block ⟨2, ![128, 1024]⟩ ⟨2, ![2048, 1024]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v23) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_and_within_capacity_KernelIdeal : Cert.Pre_finite_and_within_capacity_KernelIdeal.Facts) (hPre_finite_and_within_capacity_ReferenceIdeal : Cert.Pre_finite_and_within_capacity_ReferenceIdeal.Facts),
    quiescent_Kernel (hKernel := hKernel)
    ∧ quiescent_KernelIdeal (hKernelIdeal := hKernelIdeal)
    ∧ quiescent_KernelIdeal_pre_finite_and_within_capacity_KernelIdeal (hKernelIdeal := hKernelIdeal) (hPre_finite_and_within_capacity_KernelIdeal := hPre_finite_and_within_capacity_KernelIdeal)
    ∧ quiescent_ReferenceIdeal (hReferenceIdeal := hReferenceIdeal)
    ∧ quiescent_ReferenceIdeal_pre_finite_and_within_capacity_ReferenceIdeal (hReferenceIdeal := hReferenceIdeal) (hPre_finite_and_within_capacity_ReferenceIdeal := hPre_finite_and_within_capacity_ReferenceIdeal)
    ∧ preserves_Kernel_KernelIdeal
    ∧ algebraic_KernelIdeal_ReferenceIdeal_pre_finite_and_within_capacity_KernelIdeal (hKernelIdeal := hKernelIdeal) (hReferenceIdeal := hReferenceIdeal) (hPre_finite_and_within_capacity_KernelIdeal := hPre_finite_and_within_capacity_KernelIdeal)
-- ==== Pre_finite_and_within_capacity_KernelIdeal.lean ====
abbrev S2048x512 : Shape := ⟨2, ![2048, 512]⟩
abbrev S512x64 : Shape := ⟨2, ![512, 64]⟩
abbrev S2048x1 : Shape := ⟨2, ![2048, 1]⟩
abbrev S4x512x1024 : Shape := ⟨3, ![4, 512, 1024]⟩
abbrev S512x1024 : Shape := ⟨2, ![512, 1024]⟩
abbrev S16 : Shape := ⟨1, ![16]⟩
abbrev S1x16 : Shape := ⟨2, ![1, 16]⟩
abbrev S_ : Shape := ⟨0, ![]⟩
abbrev S2048x16 : Shape := ⟨2, ![2048, 16]⟩
abbrev S16x128x16 : Shape := ⟨3, ![16, 128, 16]⟩
abbrev S16x16 : Shape := ⟨2, ![16, 16]⟩

class Facts : Prop where
  bcast_S16_S1x16_1 : S16.BroadcastsInDim S1x16 (![1] : Fin 1 → Fin S1x16.rank)
  bcast_S_S1x16 : S_.BroadcastsInDim S1x16 (![] : Fin 0 → Fin S1x16.rank)
  bcast_S2048x1_S2048x16_0_1 : S2048x1.BroadcastsInDim S2048x16 (![0, 1] : Fin 2 → Fin S2048x16.rank)
  bcast_S1x16_S2048x16_0_1 : S1x16.BroadcastsInDim S2048x16 (![0, 1] : Fin 2 → Fin S2048x16.rank)
  natLt_1_32 : 1 < 32
  bcast_S_S2048x512 : S_.BroadcastsInDim S2048x512 (![] : Fin 0 → Fin S2048x512.rank)
  bcast_S_S512x64 : S_.BroadcastsInDim S512x64 (![] : Fin 0 → Fin S512x64.rank)
  shapeCasts_S2048x16_S16x128x16 : S2048x16.ShapeCasts S16x128x16
  reducesTo_S16x128x16_S16x16_d1 : S16x128x16.ReducesTo [1] S16x16
  h_S_ : 0 < S_.numel
  bcast_S_S16x16 : S_.BroadcastsInDim S16x16 (![] : Fin 0 → Fin S16x16.rank)

variable [Facts]

def fn_part1 {F : FTy → Type} [FloatOps F] (main_v13 : IVec S2048x16 32) (main_v16 : IVec S2048x512 1) (main_v19 : IVec S512x64 1) : IVec S2048x512 1 × IVec S512x64 1 × IVec S16x16 1 :=
  let main_v20 : IVec S16x128x16 32 := shapeCast S16x128x16 main_v13 shapeCasts_S2048x16_S16x128x16
  let main_c_2 : IVec S_ 32 := constantI S_ 32 0#32
  let main_v21 : IVec S16x16 32 := (fun x v => Host.reduce IntOp.addi x v reducesTo_S16x128x16_S16x16_d1 h_S_) main_v20 main_c_2
  let main_c_3 : IVec S_ 32 := constantI S_ 32 32#32
  let main_v22 : IVec S16x16 32 := broadcastInDim S16x16 ![] bcast_S_S16x16 main_c_3
  let main_v23 : IVec S16x16 1 := cmpi .sle main_v21 main_v22
  (main_v16, main_v19, main_v23)

def fn {F : FTy → Type} [FloatOps F] (main_arg0 : FVec F S2048x512 .f32) (main_arg1 : FVec F S512x64 .f32) (main_arg2 : IVec S2048x1 32) (main_arg3 : FVec F S4x512x1024 .f32) (main_arg4 : FVec F S512x1024 .f32) : IVec S2048x512 1 × IVec S512x64 1 × IVec S16x16 1 :=
  let main_v0 : IVec S16 32 := iotaInDim S16 32 0
  let main_v1 : IVec S1x16 32 := broadcastInDim S1x16 ![1] bcast_S16_S1x16_1 main_v0
  let main_c : IVec S_ 32 := constantI S_ 32 4#32
  let main_v2 : IVec S1x16 32 := broadcastInDim S1x16 ![] bcast_S_S1x16 main_c
  let main_v3 : IVec S1x16 32 := muli main_v2 main_v1
  let main_v4 : IVec S2048x16 32 := broadcastInDim S2048x16 ![0, 1] bcast_S2048x1_S2048x16_0_1 main_arg2
  let main_v5 : IVec S2048x16 32 := broadcastInDim S2048x16 ![0, 1] bcast_S1x16_S2048x16_0_1 main_v3
  let main_v6 : IVec S2048x16 1 := cmpi .sge main_v4 main_v5
  let main_c_0 : IVec S_ 32 := constantI S_ 32 4#32
  let main_v7 : IVec S1x16 32 := broadcastInDim S1x16 ![] bcast_S_S1x16 main_c_0
  let main_v8 : IVec S1x16 32 := addi main_v3 main_v7
  let main_v9 : IVec S2048x16 32 := broadcastInDim S2048x16 ![0, 1] bcast_S2048x1_S2048x16_0_1 main_arg2
  let main_v10 : IVec S2048x16 32 := broadcastInDim S2048x16 ![0, 1] bcast_S1x16_S2048x16_0_1 main_v8
  let main_v11 : IVec S2048x16 1 := cmpi .slt main_v9 main_v10
  let main_v12 : IVec S2048x16 1 := andi main_v6 main_v11
  let main_v13 : IVec S2048x16 32 := (extui 32 · natLt_1_32) main_v12
  let main_v14 : FVec F S2048x512 .f32 := Host.absf main_arg0
  let main_cst : FVec F S_ .f32 := constant S_ .f32 0x7F800000#32
  let main_v15 : FVec F S2048x512 .f32 := broadcastInDim S2048x512 ![] bcast_S_S2048x512 main_cst
  let main_v16 : IVec S2048x512 1 := cmpf .olt main_v14 main_v15
  let main_v17 : FVec F S512x64 .f32 := Host.absf main_arg1
  let main_cst_1 : FVec F S_ .f32 := constant S_ .f32 0x7F800000#32
  let main_v18 : FVec F S512x64 .f32 := broadcastInDim S512x64 ![] bcast_S_S512x64 main_cst_1
  let main_v19 : IVec S512x64 1 := cmpf .olt main_v17 main_v18
  fn_part1 (F := F) main_v13 main_v16 main_v19
-- ==== Pre_finite_and_within_capacity_ReferenceIdeal.lean ====
abbrev S2048x512 : Shape := ⟨2, ![2048, 512]⟩
abbrev S512x64 : Shape := ⟨2, ![512, 64]⟩
abbrev S2048x1 : Shape := ⟨2, ![2048, 1]⟩
abbrev S64x512x1024 : Shape := ⟨3, ![64, 512, 1024]⟩
abbrev S512x1024 : Shape := ⟨2, ![512, 1024]⟩
abbrev S16 : Shape := ⟨1, ![16]⟩
abbrev S1x16 : Shape := ⟨2, ![1, 16]⟩
abbrev S_ : Shape := ⟨0, ![]⟩
abbrev S2048x16 : Shape := ⟨2, ![2048, 16]⟩
abbrev S16x128x16 : Shape := ⟨3, ![16, 128, 16]⟩
abbrev S16x16 : Shape := ⟨2, ![16, 16]⟩

class Facts : Prop where
  bcast_S16_S1x16_1 : S16.BroadcastsInDim S1x16 (![1] : Fin 1 → Fin S1x16.rank)
  bcast_S_S1x16 : S_.BroadcastsInDim S1x16 (![] : Fin 0 → Fin S1x16.rank)
  bcast_S2048x1_S2048x16_0_1 : S2048x1.BroadcastsInDim S2048x16 (![0, 1] : Fin 2 → Fin S2048x16.rank)
  bcast_S1x16_S2048x16_0_1 : S1x16.BroadcastsInDim S2048x16 (![0, 1] : Fin 2 → Fin S2048x16.rank)
  natLt_1_32 : 1 < 32
  bcast_S_S2048x512 : S_.BroadcastsInDim S2048x512 (![] : Fin 0 → Fin S2048x512.rank)
  bcast_S_S512x64 : S_.BroadcastsInDim S512x64 (![] : Fin 0 → Fin S512x64.rank)
  shapeCasts_S2048x16_S16x128x16 : S2048x16.ShapeCasts S16x128x16
  reducesTo_S16x128x16_S16x16_d1 : S16x128x16.ReducesTo [1] S16x16
  h_S_ : 0 < S_.numel
  bcast_S_S16x16 : S_.BroadcastsInDim S16x16 (![] : Fin 0 → Fin S16x16.rank)

variable [Facts]

def fn_part1 {F : FTy → Type} [FloatOps F] (main_v13 : IVec S2048x16 32) (main_v16 : IVec S2048x512 1) (main_v19 : IVec S512x64 1) : IVec S2048x512 1 × IVec S512x64 1 × IVec S16x16 1 :=
  let main_v20 : IVec S16x128x16 32 := shapeCast S16x128x16 main_v13 shapeCasts_S2048x16_S16x128x16
  let main_c_2 : IVec S_ 32 := constantI S_ 32 0#32
  let main_v21 : IVec S16x16 32 := (fun x v => Host.reduce IntOp.addi x v reducesTo_S16x128x16_S16x16_d1 h_S_) main_v20 main_c_2
  let main_c_3 : IVec S_ 32 := constantI S_ 32 32#32
  let main_v22 : IVec S16x16 32 := broadcastInDim S16x16 ![] bcast_S_S16x16 main_c_3
  let main_v23 : IVec S16x16 1 := cmpi .sle main_v21 main_v22
  (main_v16, main_v19, main_v23)

def fn {F : FTy → Type} [FloatOps F] (main_arg0 : FVec F S2048x512 .f32) (main_arg1 : FVec F S512x64 .f32) (main_arg2 : IVec S2048x1 32) (main_arg3 : FVec F S64x512x1024 .f32) (main_arg4 : FVec F S512x1024 .f32) : IVec S2048x512 1 × IVec S512x64 1 × IVec S16x16 1 :=
  let main_v0 : IVec S16 32 := iotaInDim S16 32 0
  let main_v1 : IVec S1x16 32 := broadcastInDim S1x16 ![1] bcast_S16_S1x16_1 main_v0
  let main_c : IVec S_ 32 := constantI S_ 32 4#32
  let main_v2 : IVec S1x16 32 := broadcastInDim S1x16 ![] bcast_S_S1x16 main_c
  let main_v3 : IVec S1x16 32 := muli main_v2 main_v1
  let main_v4 : IVec S2048x16 32 := broadcastInDim S2048x16 ![0, 1] bcast_S2048x1_S2048x16_0_1 main_arg2
  let main_v5 : IVec S2048x16 32 := broadcastInDim S2048x16 ![0, 1] bcast_S1x16_S2048x16_0_1 main_v3
  let main_v6 : IVec S2048x16 1 := cmpi .sge main_v4 main_v5
  let main_c_0 : IVec S_ 32 := constantI S_ 32 4#32
  let main_v7 : IVec S1x16 32 := broadcastInDim S1x16 ![] bcast_S_S1x16 main_c_0
  let main_v8 : IVec S1x16 32 := addi main_v3 main_v7
  let main_v9 : IVec S2048x16 32 := broadcastInDim S2048x16 ![0, 1] bcast_S2048x1_S2048x16_0_1 main_arg2
  let main_v10 : IVec S2048x16 32 := broadcastInDim S2048x16 ![0, 1] bcast_S1x16_S2048x16_0_1 main_v8
  let main_v11 : IVec S2048x16 1 := cmpi .slt main_v9 main_v10
  let main_v12 : IVec S2048x16 1 := andi main_v6 main_v11
  let main_v13 : IVec S2048x16 32 := (extui 32 · natLt_1_32) main_v12
  let main_v14 : FVec F S2048x512 .f32 := Host.absf main_arg0
  let main_cst : FVec F S_ .f32 := constant S_ .f32 0x7F800000#32
  let main_v15 : FVec F S2048x512 .f32 := broadcastInDim S2048x512 ![] bcast_S_S2048x512 main_cst
  let main_v16 : IVec S2048x512 1 := cmpf .olt main_v14 main_v15
  let main_v17 : FVec F S512x64 .f32 := Host.absf main_arg1
  let main_cst_1 : FVec F S_ .f32 := constant S_ .f32 0x7F800000#32
  let main_v18 : FVec F S512x64 .f32 := broadcastInDim S512x64 ![] bcast_S_S512x64 main_cst_1
  let main_v19 : IVec S512x64 1 := cmpf .olt main_v17 main_v18
  fn_part1 (F := F) main_v13 main_v16 main_v19
-- ==== Kernel.lean ====
abbrev S2048x512 : Shape := ⟨2, ![2048, 512]⟩
abbrev S512x64 : Shape := ⟨2, ![512, 64]⟩
abbrev S2048x1 : Shape := ⟨2, ![2048, 1]⟩
abbrev S4x512x1024 : Shape := ⟨3, ![4, 512, 1024]⟩
abbrev S512x1024 : Shape := ⟨2, ![512, 1024]⟩
abbrev S64x512 : Shape := ⟨2, ![64, 512]⟩
abbrev S64 : Shape := ⟨1, ![64]⟩
abbrev S1x64 : Shape := ⟨2, ![1, 64]⟩
abbrev S2048x64 : Shape := ⟨2, ![2048, 64]⟩
abbrev S128x1024 : Shape := ⟨2, ![128, 1024]⟩
abbrev S2048x1024 : Shape := ⟨2, ![2048, 1024]⟩
abbrev S4x128x1152 : Shape := ⟨3, ![4, 128, 1152]⟩
abbrev S15x32x1152 : Shape := ⟨3, ![15, 32, 1152]⟩
abbrev S15 : Shape := ⟨1, ![15]⟩
abbrev S3 : Shape := ⟨1, ![3]⟩
abbrev S1 : Shape := ⟨1, ![1]⟩
abbrev S_ : Shape := ⟨0, ![]⟩
abbrev S2048 : Shape := ⟨1, ![2048]⟩
abbrev S128x128 : Shape := ⟨2, ![128, 128]⟩
abbrev S128x512 : Shape := ⟨2, ![128, 512]⟩
abbrev S128x64 : Shape := ⟨2, ![128, 64]⟩
abbrev S128 : Shape := ⟨1, ![128]⟩
abbrev S128x1 : Shape := ⟨2, ![128, 1]⟩
abbrev S128x32 : Shape := ⟨2, ![128, 32]⟩
abbrev S32x512 : Shape := ⟨2, ![32, 512]⟩
abbrev S32x2048 : Shape := ⟨2, ![32, 2048]⟩
abbrev S32x128 : Shape := ⟨2, ![32, 128]⟩
abbrev S128x2048 : Shape := ⟨2, ![128, 2048]⟩
abbrev S1x512x1024 : Shape := ⟨3, ![1, 512, 1024]⟩
abbrev S128x1152 : Shape := ⟨2, ![128, 1152]⟩
abbrev S1x128x1152 : Shape := ⟨3, ![1, 128, 1152]⟩
abbrev S1x32x1152 : Shape := ⟨3, ![1, 32, 1152]⟩
abbrev S32x1152 : Shape := ⟨2, ![32, 1152]⟩
abbrev S4x32x1152 : Shape := ⟨3, ![4, 32, 1152]⟩
abbrev S3x32x1152 : Shape := ⟨3, ![3, 32, 1152]⟩
abbrev S96x1152 : Shape := ⟨2, ![96, 1152]⟩

abbrev nBuf : Space → Nat
  | .hbm => 13
  | .vmem => 12
  | .smem => 0
  | _ => 0

abbrev bufTy : (tb : Table) → Fin (tcTables nBuf tb) → BufTy
  | .hbm, ⟨0, _⟩ => ⟨S2048x512, .f32⟩
  | .hbm, ⟨1, _⟩ => ⟨S512x64, .f32⟩
  | .hbm, ⟨2, _⟩ => ⟨S2048x1, .i32⟩
  | .hbm, ⟨3, _⟩ => ⟨S4x512x1024, .f32⟩
  | .hbm, ⟨4, _⟩ => ⟨S512x1024, .f32⟩
  | .hbm, ⟨5, _⟩ => ⟨S64x512, .f32⟩
  | .hbm, ⟨6, _⟩ => ⟨S64, .i32⟩
  | .hbm, ⟨7, _⟩ => ⟨S1x64, .i32⟩
  | .hbm, ⟨8, _⟩ => ⟨S2048x64, .i32⟩
  | .hbm, ⟨9, _⟩ => ⟨S2048x64, .i32⟩
  | .hbm, ⟨10, _⟩ => ⟨S2048x64, .i1⟩
  | .hbm, ⟨11, _⟩ => ⟨S2048x64, .bf16⟩
  | .hbm, ⟨12, _⟩ => ⟨S128x1024, .f32⟩
  | .local _ .vmem, ⟨0, _⟩ => ⟨S64x512, .f32⟩
  | .local _ .vmem, ⟨1, _⟩ => ⟨S2048x64, .bf16⟩
  | .local _ .vmem, ⟨2, _⟩ => ⟨S2048x512, .f32⟩
  | .local _ .vmem, ⟨3, _⟩ => ⟨S2048x512, .bf16⟩
  | .local _ .vmem, ⟨4, _⟩ => ⟨S4x512x1024, .f32⟩
  | .local _ .vmem, ⟨5, _⟩ => ⟨S2048x1024, .bf16⟩
  | .local _ .vmem, ⟨6, _⟩ => ⟨S512x1024, .f32⟩
  | .local _ .vmem, ⟨7, _⟩ => ⟨S512x1024, .bf16⟩
  | .local _ .vmem, ⟨8, _⟩ => ⟨S2048x64, .f32⟩
  | .local _ .vmem, ⟨9, _⟩ => ⟨S128x1024, .f32⟩
  | .local _ .vmem, ⟨10, _⟩ => ⟨S4x128x1152, .bf16⟩
  | .local _ .vmem, ⟨11, _⟩ => ⟨S15x32x1152, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  (ofTc nBuf bufTy 1 35 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_scratch8 : Ref sig .tc := ⟨.vmem, 10, rfl⟩
abbrev cc0_scratch9 : Ref sig .tc := ⟨.vmem, 11, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_10 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v10 : BitVec 32 := Scalar.addi v2 c1_i32_1
  let c16_i32_2 : BitVec 32 := 16#32
  let c0_i32_3 : BitVec 32 := 0#32
  let v11 : BitVec 1 := Scalar.cmpi .eq c16_i32_2 c0_i32_3
  let c1_i32_4 : BitVec 32 := 1#32
  let v12 : BitVec 32 := Scalar.select v11 c1_i32_4 c16_i32_2
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let c1_i32_9 : BitVec 32 := 1#32
  let v21 : BitVec 32 := Scalar.muli v20 c1_i32_9
  let v22 : BitVec 32 := Scalar.addi c0_i32_10 v21
  v22.toNat
def k0_dev2 (d0 : Dev nD) : Nat :=
  let c0_i32_20 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_11 : BitVec 32 := 2#32
  let v23 : BitVec 32 := Scalar.addi v2 c2_i32_11
  let c16_i32_12 : BitVec 32 := 16#32
  let c0_i32_13 : BitVec 32 := 0#32
  let v24 : BitVec 1 := Scalar.cmpi .eq c16_i32_12 c0_i32_13
  let c1_i32_14 : BitVec 32 := 1#32
  let v25 : BitVec 32 := Scalar.select v24 c1_i32_14 c16_i32_12
  let v26 : BitVec 32 := Scalar.remsi v23 v25
  let c0_i32_16 : BitVec 32 := 0#32
  let v28 : BitVec 1 := Scalar.cmpi .slt v26 c0_i32_16
  let c0_i32_17 : BitVec 32 := 0#32
  let v29 : BitVec 1 := Scalar.cmpi .slt v25 c0_i32_17
  let v30 : BitVec 1 := Scalar.xori v28 v29
  let c0_i32_15 : BitVec 32 := 0#32
  let v27 : BitVec 1 := Scalar.cmpi .ne v26 c0_i32_15
  let v31 : BitVec 1 := Scalar.andi v30 v27
  let v32 : BitVec 32 := Scalar.addi v26 v25
  let v33 : BitVec 32 := Scalar.select v31 v32 v26
  let c1_i32_19 : BitVec 32 := 1#32
  let v34 : BitVec 32 := Scalar.muli v33 c1_i32_19
  let v35 : BitVec 32 := Scalar.addi c0_i32_20 v34
  v35.toNat
def k0_dev3 (d0 : Dev nD) : Nat :=
  let c0_i32_29 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v36 : BitVec 32 := Scalar.addi v2 c3_i32
  let c16_i32_21 : BitVec 32 := 16#32
  let c0_i32_22 : BitVec 32 := 0#32
  let v37 : BitVec 1 := Scalar.cmpi .eq c16_i32_21 c0_i32_22
  let c1_i32_23 : BitVec 32 := 1#32
  let v38 : BitVec 32 := Scalar.select v37 c1_i32_23 c16_i32_21
  let v39 : BitVec 32 := Scalar.remsi v36 v38
  let c0_i32_25 : BitVec 32 := 0#32
  let v41 : BitVec 1 := Scalar.cmpi .slt v39 c0_i32_25
  let c0_i32_26 : BitVec 32 := 0#32
  let v42 : BitVec 1 := Scalar.cmpi .slt v38 c0_i32_26
  let v43 : BitVec 1 := Scalar.xori v41 v42
  let c0_i32_24 : BitVec 32 := 0#32
  let v40 : BitVec 1 := Scalar.cmpi .ne v39 c0_i32_24
  let v44 : BitVec 1 := Scalar.andi v43 v40
  let v45 : BitVec 32 := Scalar.addi v39 v38
  let v46 : BitVec 32 := Scalar.select v44 v45 v39
  let c1_i32_28 : BitVec 32 := 1#32
  let v47 : BitVec 32 := Scalar.muli v46 c1_i32_28
  let v48 : BitVec 32 := Scalar.addi c0_i32_29 v47
  v48.toNat
def k0_dev4 (d0 : Dev nD) : Nat :=
  let c0_i32_38 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v49 : BitVec 32 := Scalar.addi v2 c4_i32
  let c16_i32_30 : BitVec 32 := 16#32
  let c0_i32_31 : BitVec 32 := 0#32
  let v50 : BitVec 1 := Scalar.cmpi .eq c16_i32_30 c0_i32_31
  let c1_i32_32 : BitVec 32 := 1#32
  let v51 : BitVec 32 := Scalar.select v50 c1_i32_32 c16_i32_30
  let v52 : BitVec 32 := Scalar.remsi v49 v51
  let c0_i32_34 : BitVec 32 := 0#32
  let v54 : BitVec 1 := Scalar.cmpi .slt v52 c0_i32_34
  let c0_i32_35 : BitVec 32 := 0#32
  let v55 : BitVec 1 := Scalar.cmpi .slt v51 c0_i32_35
  let v56 : BitVec 1 := Scalar.xori v54 v55
  let c0_i32_33 : BitVec 32 := 0#32
  let v53 : BitVec 1 := Scalar.cmpi .ne v52 c0_i32_33
  let v57 : BitVec 1 := Scalar.andi v56 v53
  let v58 : BitVec 32 := Scalar.addi v52 v51
  let v59 : BitVec 32 := Scalar.select v57 v58 v52
  let c1_i32_37 : BitVec 32 := 1#32
  let v60 : BitVec 32 := Scalar.muli v59 c1_i32_37
  let v61 : BitVec 32 := Scalar.addi c0_i32_38 v60
  v61.toNat
def k0_dev5 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v62 : BitVec 32 := Scalar.addi v2 c5_i32
  let c16_i32_39 : BitVec 32 := 16#32
  let c0_i32_40 : BitVec 32 := 0#32
  let v63 : BitVec 1 := Scalar.cmpi .eq c16_i32_39 c0_i32_40
  let c1_i32_41 : BitVec 32 := 1#32
  let v64 : BitVec 32 := Scalar.select v63 c1_i32_41 c16_i32_39
  let v65 : BitVec 32 := Scalar.remsi v62 v64
  let c0_i32_43 : BitVec 32 := 0#32
  let v67 : BitVec 1 := Scalar.cmpi .slt v65 c0_i32_43
  let c0_i32_44 : BitVec 32 := 0#32
  let v68 : BitVec 1 := Scalar.cmpi .slt v64 c0_i32_44
  let v69 : BitVec 1 := Scalar.xori v67 v68
  let c0_i32_42 : BitVec 32 := 0#32
  let v66 : BitVec 1 := Scalar.cmpi .ne v65 c0_i32_42
  let v70 : BitVec 1 := Scalar.andi v69 v66
  let v71 : BitVec 32 := Scalar.addi v65 v64
  let v72 : BitVec 32 := Scalar.select v70 v71 v65
  let c1_i32_46 : BitVec 32 := 1#32
  let v73 : BitVec 32 := Scalar.muli v72 c1_i32_46
  let v74 : BitVec 32 := Scalar.addi c0_i32_47 v73
  v74.toNat
def k0_dev6 (d0 : Dev nD) : Nat :=
  let c0_i32_56 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v75 : BitVec 32 := Scalar.addi v2 c6_i32
  let c16_i32_48 : BitVec 32 := 16#32
  let c0_i32_49 : BitVec 32 := 0#32
  let v76 : BitVec 1 := Scalar.cmpi .eq c16_i32_48 c0_i32_49
  let c1_i32_50 : BitVec 32 := 1#32
  let v77 : BitVec 32 := Scalar.select v76 c1_i32_50 c16_i32_48
  let v78 : BitVec 32 := Scalar.remsi v75 v77
  let c0_i32_52 : BitVec 32 := 0#32
  let v80 : BitVec 1 := Scalar.cmpi .slt v78 c0_i32_52
  let c0_i32_53 : BitVec 32 := 0#32
  let v81 : BitVec 1 := Scalar.cmpi .slt v77 c0_i32_53
  let v82 : BitVec 1 := Scalar.xori v80 v81
  let c0_i32_51 : BitVec 32 := 0#32
  let v79 : BitVec 1 := Scalar.cmpi .ne v78 c0_i32_51
  let v83 : BitVec 1 := Scalar.andi v82 v79
  let v84 : BitVec 32 := Scalar.addi v78 v77
  let v85 : BitVec 32 := Scalar.select v83 v84 v78
  let c1_i32_55 : BitVec 32 := 1#32
  let v86 : BitVec 32 := Scalar.muli v85 c1_i32_55
  let v87 : BitVec 32 := Scalar.addi c0_i32_56 v86
  v87.toNat
def k0_dev7 (d0 : Dev nD) : Nat :=
  let c0_i32_65 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v88 : BitVec 32 := Scalar.addi v2 c7_i32
  let c16_i32_57 : BitVec 32 := 16#32
  let c0_i32_58 : BitVec 32 := 0#32
  let v89 : BitVec 1 := Scalar.cmpi .eq c16_i32_57 c0_i32_58
  let c1_i32_59 : BitVec 32 := 1#32
  let v90 : BitVec 32 := Scalar.select v89 c1_i32_59 c16_i32_57
  let v91 : BitVec 32 := Scalar.remsi v88 v90
  let c0_i32_61 : BitVec 32 := 0#32
  let v93 : BitVec 1 := Scalar.cmpi .slt v91 c0_i32_61
  let c0_i32_62 : BitVec 32 := 0#32
  let v94 : BitVec 1 := Scalar.cmpi .slt v90 c0_i32_62
  let v95 : BitVec 1 := Scalar.xori v93 v94
  let c0_i32_60 : BitVec 32 := 0#32
  let v92 : BitVec 1 := Scalar.cmpi .ne v91 c0_i32_60
  let v96 : BitVec 1 := Scalar.andi v95 v92
  let v97 : BitVec 32 := Scalar.addi v91 v90
  let v98 : BitVec 32 := Scalar.select v96 v97 v91
  let c1_i32_64 : BitVec 32 := 1#32
  let v99 : BitVec 32 := Scalar.muli v98 c1_i32_64
  let v100 : BitVec 32 := Scalar.addi c0_i32_65 v99
  v100.toNat
def k0_dev8 (d0 : Dev nD) : Nat :=
  let c0_i32_74 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v101 : BitVec 32 := Scalar.addi v2 c8_i32
  let c16_i32_66 : BitVec 32 := 16#32
  let c0_i32_67 : BitVec 32 := 0#32
  let v102 : BitVec 1 := Scalar.cmpi .eq c16_i32_66 c0_i32_67
  let c1_i32_68 : BitVec 32 := 1#32
  let v103 : BitVec 32 := Scalar.select v102 c1_i32_68 c16_i32_66
  let v104 : BitVec 32 := Scalar.remsi v101 v103
  let c0_i32_70 : BitVec 32 := 0#32
  let v106 : BitVec 1 := Scalar.cmpi .slt v104 c0_i32_70
  let c0_i32_71 : BitVec 32 := 0#32
  let v107 : BitVec 1 := Scalar.cmpi .slt v103 c0_i32_71
  let v108 : BitVec 1 := Scalar.xori v106 v107
  let c0_i32_69 : BitVec 32 := 0#32
  let v105 : BitVec 1 := Scalar.cmpi .ne v104 c0_i32_69
  let v109 : BitVec 1 := Scalar.andi v108 v105
  let v110 : BitVec 32 := Scalar.addi v104 v103
  let v111 : BitVec 32 := Scalar.select v109 v110 v104
  let c1_i32_73 : BitVec 32 := 1#32
  let v112 : BitVec 32 := Scalar.muli v111 c1_i32_73
  let v113 : BitVec 32 := Scalar.addi c0_i32_74 v112
  v113.toNat
def k0_dev9 (d0 : Dev nD) : Nat :=
  let c0_i32_83 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v114 : BitVec 32 := Scalar.addi v2 c9_i32
  let c16_i32_75 : BitVec 32 := 16#32
  let c0_i32_76 : BitVec 32 := 0#32
  let v115 : BitVec 1 := Scalar.cmpi .eq c16_i32_75 c0_i32_76
  let c1_i32_77 : BitVec 32 := 1#32
  let v116 : BitVec 32 := Scalar.select v115 c1_i32_77 c16_i32_75
  let v117 : BitVec 32 := Scalar.remsi v114 v116
  let c0_i32_79 : BitVec 32 := 0#32
  let v119 : BitVec 1 := Scalar.cmpi .slt v117 c0_i32_79
  let c0_i32_80 : BitVec 32 := 0#32
  let v120 : BitVec 1 := Scalar.cmpi .slt v116 c0_i32_80
  let v121 : BitVec 1 := Scalar.xori v119 v120
  let c0_i32_78 : BitVec 32 := 0#32
  let v118 : BitVec 1 := Scalar.cmpi .ne v117 c0_i32_78
  let v122 : BitVec 1 := Scalar.andi v121 v118
  let v123 : BitVec 32 := Scalar.addi v117 v116
  let v124 : BitVec 32 := Scalar.select v122 v123 v117
  let c1_i32_82 : BitVec 32 := 1#32
  let v125 : BitVec 32 := Scalar.muli v124 c1_i32_82
  let v126 : BitVec 32 := Scalar.addi c0_i32_83 v125
  v126.toNat
def k0_dev10 (d0 : Dev nD) : Nat :=
  let c0_i32_92 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v127 : BitVec 32 := Scalar.addi v2 c10_i32
  let c16_i32_84 : BitVec 32 := 16#32
  let c0_i32_85 : BitVec 32 := 0#32
  let v128 : BitVec 1 := Scalar.cmpi .eq c16_i32_84 c0_i32_85
  let c1_i32_86 : BitVec 32 := 1#32
  let v129 : BitVec 32 := Scalar.select v128 c1_i32_86 c16_i32_84
  let v130 : BitVec 32 := Scalar.remsi v127 v129
  let c0_i32_88 : BitVec 32 := 0#32
  let v132 : BitVec 1 := Scalar.cmpi .slt v130 c0_i32_88
  let c0_i32_89 : BitVec 32 := 0#32
  let v133 : BitVec 1 := Scalar.cmpi .slt v129 c0_i32_89
  let v134 : BitVec 1 := Scalar.xori v132 v133
  let c0_i32_87 : BitVec 32 := 0#32
  let v131 : BitVec 1 := Scalar.cmpi .ne v130 c0_i32_87
  let v135 : BitVec 1 := Scalar.andi v134 v131
  let v136 : BitVec 32 := Scalar.addi v130 v129
  let v137 : BitVec 32 := Scalar.select v135 v136 v130
  let c1_i32_91 : BitVec 32 := 1#32
  let v138 : BitVec 32 := Scalar.muli v137 c1_i32_91
  let v139 : BitVec 32 := Scalar.addi c0_i32_92 v138
  v139.toNat
def k0_dev11 (d0 : Dev nD) : Nat :=
  let c0_i32_101 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v140 : BitVec 32 := Scalar.addi v2 c11_i32
  let c16_i32_93 : BitVec 32 := 16#32
  let c0_i32_94 : BitVec 32 := 0#32
  let v141 : BitVec 1 := Scalar.cmpi .eq c16_i32_93 c0_i32_94
  let c1_i32_95 : BitVec 32 := 1#32
  let v142 : BitVec 32 := Scalar.select v141 c1_i32_95 c16_i32_93
  let v143 : BitVec 32 := Scalar.remsi v140 v142
  let c0_i32_97 : BitVec 32 := 0#32
  let v145 : BitVec 1 := Scalar.cmpi .slt v143 c0_i32_97
  let c0_i32_98 : BitVec 32 := 0#32
  let v146 : BitVec 1 := Scalar.cmpi .slt v142 c0_i32_98
  let v147 : BitVec 1 := Scalar.xori v145 v146
  let c0_i32_96 : BitVec 32 := 0#32
  let v144 : BitVec 1 := Scalar.cmpi .ne v143 c0_i32_96
  let v148 : BitVec 1 := Scalar.andi v147 v144
  let v149 : BitVec 32 := Scalar.addi v143 v142
  let v150 : BitVec 32 := Scalar.select v148 v149 v143
  let c1_i32_100 : BitVec 32 := 1#32
  let v151 : BitVec 32 := Scalar.muli v150 c1_i32_100
  let v152 : BitVec 32 := Scalar.addi c0_i32_101 v151
  v152.toNat
def k0_dev12 (d0 : Dev nD) : Nat :=
  let c0_i32_110 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v153 : BitVec 32 := Scalar.addi v2 c12_i32
  let c16_i32_102 : BitVec 32 := 16#32
  let c0_i32_103 : BitVec 32 := 0#32
  let v154 : BitVec 1 := Scalar.cmpi .eq c16_i32_102 c0_i32_103
  let c1_i32_104 : BitVec 32 := 1#32
  let v155 : BitVec 32 := Scalar.select v154 c1_i32_104 c16_i32_102
  let v156 : BitVec 32 := Scalar.remsi v153 v155
  let c0_i32_106 : BitVec 32 := 0#32
  let v158 : BitVec 1 := Scalar.cmpi .slt v156 c0_i32_106
  let c0_i32_107 : BitVec 32 := 0#32
  let v159 : BitVec 1 := Scalar.cmpi .slt v155 c0_i32_107
  let v160 : BitVec 1 := Scalar.xori v158 v159
  let c0_i32_105 : BitVec 32 := 0#32
  let v157 : BitVec 1 := Scalar.cmpi .ne v156 c0_i32_105
  let v161 : BitVec 1 := Scalar.andi v160 v157
  let v162 : BitVec 32 := Scalar.addi v156 v155
  let v163 : BitVec 32 := Scalar.select v161 v162 v156
  let c1_i32_109 : BitVec 32 := 1#32
  let v164 : BitVec 32 := Scalar.muli v163 c1_i32_109
  let v165 : BitVec 32 := Scalar.addi c0_i32_110 v164
  v165.toNat
def k0_dev13 (d0 : Dev nD) : Nat :=
  let c0_i32_119 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v166 : BitVec 32 := Scalar.addi v2 c13_i32
  let c16_i32_111 : BitVec 32 := 16#32
  let c0_i32_112 : BitVec 32 := 0#32
  let v167 : BitVec 1 := Scalar.cmpi .eq c16_i32_111 c0_i32_112
  let c1_i32_113 : BitVec 32 := 1#32
  let v168 : BitVec 32 := Scalar.select v167 c1_i32_113 c16_i32_111
  let v169 : BitVec 32 := Scalar.remsi v166 v168
  let c0_i32_115 : BitVec 32 := 0#32
  let v171 : BitVec 1 := Scalar.cmpi .slt v169 c0_i32_115
  let c0_i32_116 : BitVec 32 := 0#32
  let v172 : BitVec 1 := Scalar.cmpi .slt v168 c0_i32_116
  let v173 : BitVec 1 := Scalar.xori v171 v172
  let c0_i32_114 : BitVec 32 := 0#32
  let v170 : BitVec 1 := Scalar.cmpi .ne v169 c0_i32_114
  let v174 : BitVec 1 := Scalar.andi v173 v170
  let v175 : BitVec 32 := Scalar.addi v169 v168
  let v176 : BitVec 32 := Scalar.select v174 v175 v169
  let c1_i32_118 : BitVec 32 := 1#32
  let v177 : BitVec 32 := Scalar.muli v176 c1_i32_118
  let v178 : BitVec 32 := Scalar.addi c0_i32_119 v177
  v178.toNat
def k0_dev14 (d0 : Dev nD) : Nat :=
  let c0_i32_128 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v179 : BitVec 32 := Scalar.addi v2 c14_i32
  let c16_i32_120 : BitVec 32 := 16#32
  let c0_i32_121 : BitVec 32 := 0#32
  let v180 : BitVec 1 := Scalar.cmpi .eq c16_i32_120 c0_i32_121
  let c1_i32_122 : BitVec 32 := 1#32
  let v181 : BitVec 32 := Scalar.select v180 c1_i32_122 c16_i32_120
  let v182 : BitVec 32 := Scalar.remsi v179 v181
  let c0_i32_124 : BitVec 32 := 0#32
  let v184 : BitVec 1 := Scalar.cmpi .slt v182 c0_i32_124
  let c0_i32_125 : BitVec 32 := 0#32
  let v185 : BitVec 1 := Scalar.cmpi .slt v181 c0_i32_125
  let v186 : BitVec 1 := Scalar.xori v184 v185
  let c0_i32_123 : BitVec 32 := 0#32
  let v183 : BitVec 1 := Scalar.cmpi .ne v182 c0_i32_123
  let v187 : BitVec 1 := Scalar.andi v186 v183
  let v188 : BitVec 32 := Scalar.addi v182 v181
  let v189 : BitVec 32 := Scalar.select v187 v188 v182
  let c1_i32_127 : BitVec 32 := 1#32
  let v190 : BitVec 32 := Scalar.muli v189 c1_i32_127
  let v191 : BitVec 32 := Scalar.addi c0_i32_128 v190
  v191.toNat
def k0_dev15 (d0 : Dev nD) : Nat :=
  let c0_i32_137 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v192 : BitVec 32 := Scalar.addi v2 c15_i32
  let c16_i32_129 : BitVec 32 := 16#32
  let c0_i32_130 : BitVec 32 := 0#32
  let v193 : BitVec 1 := Scalar.cmpi .eq c16_i32_129 c0_i32_130
  let c1_i32_131 : BitVec 32 := 1#32
  let v194 : BitVec 32 := Scalar.select v193 c1_i32_131 c16_i32_129
  let v195 : BitVec 32 := Scalar.remsi v192 v194
  let c0_i32_133 : BitVec 32 := 0#32
  let v197 : BitVec 1 := Scalar.cmpi .slt v195 c0_i32_133
  let c0_i32_134 : BitVec 32 := 0#32
  let v198 : BitVec 1 := Scalar.cmpi .slt v194 c0_i32_134
  let v199 : BitVec 1 := Scalar.xori v197 v198
  let c0_i32_132 : BitVec 32 := 0#32
  let v196 : BitVec 1 := Scalar.cmpi .ne v195 c0_i32_132
  let v200 : BitVec 1 := Scalar.andi v199 v196
  let v201 : BitVec 32 := Scalar.addi v195 v194
  let v202 : BitVec 32 := Scalar.select v200 v201 v195
  let c1_i32_136 : BitVec 32 := 1#32
  let v203 : BitVec 32 := Scalar.muli v202 c1_i32_136
  let v204 : BitVec 32 := Scalar.addi c0_i32_137 v203
  v204.toNat
def k0_off1 (d0 : Dev nD) (c1_i32_153 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v242 : BitVec 32 := Scalar.addi v2 c1_i32_153
  let c16_i32_154 : BitVec 32 := 16#32
  let c0_i32_155 : BitVec 32 := 0#32
  let v243 : BitVec 1 := Scalar.cmpi .eq c16_i32_154 c0_i32_155
  let c1_i32_156 : BitVec 32 := 1#32
  let v244 : BitVec 32 := Scalar.select v243 c1_i32_156 c16_i32_154
  let v245 : BitVec 32 := Scalar.remsi v242 v244
  let c0_i32_158 : BitVec 32 := 0#32
  let v247 : BitVec 1 := Scalar.cmpi .slt v245 c0_i32_158
  let c0_i32_159 : BitVec 32 := 0#32
  let v248 : BitVec 1 := Scalar.cmpi .slt v244 c0_i32_159
  let v249 : BitVec 1 := Scalar.xori v247 v248
  let c0_i32_157 : BitVec 32 := 0#32
  let v246 : BitVec 1 := Scalar.cmpi .ne v245 c0_i32_157
  let v250 : BitVec 1 := Scalar.andi v249 v246
  let v251 : BitVec 32 := Scalar.addi v245 v244
  let v252 : BitVec 32 := Scalar.select v250 v251 v245
  let c128_i32 : BitVec 32 := 128#32
  let v286 : BitVec 32 := Scalar.muli v252 c128_i32
  let v287 : Index := Scalar.indexCast v286
  let c0_181 : Index := 0#32
  ![v287.toNat, 0]
def k0_off2 (d0 : Dev nD) (c1_i32_153 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v242 : BitVec 32 := Scalar.addi v2 c1_i32_153
  let c16_i32_154 : BitVec 32 := 16#32
  let c0_i32_155 : BitVec 32 := 0#32
  let v243 : BitVec 1 := Scalar.cmpi .eq c16_i32_154 c0_i32_155
  let c1_i32_156 : BitVec 32 := 1#32
  let v244 : BitVec 32 := Scalar.select v243 c1_i32_156 c16_i32_154
  let v245 : BitVec 32 := Scalar.remsi v242 v244
  let c0_i32_158 : BitVec 32 := 0#32
  let v247 : BitVec 1 := Scalar.cmpi .slt v245 c0_i32_158
  let c0_i32_159 : BitVec 32 := 0#32
  let v248 : BitVec 1 := Scalar.cmpi .slt v244 c0_i32_159
  let v249 : BitVec 1 := Scalar.xori v247 v248
  let c0_i32_157 : BitVec 32 := 0#32
  let v246 : BitVec 1 := Scalar.cmpi .ne v245 c0_i32_157
  let v250 : BitVec 1 := Scalar.andi v249 v246
  let v251 : BitVec 32 := Scalar.addi v245 v244
  let v252 : BitVec 32 := Scalar.select v250 v251 v245
  let c128_i32 : BitVec 32 := 128#32
  let v286 : BitVec 32 := Scalar.muli v252 c128_i32
  let v289 : Index := Scalar.indexCast v286
  let c0_182 : Index := 0#32
  ![v289.toNat, 0]
def k0_dev16 (d0 : Dev nD) : Nat :=
  let c0_i32_321 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_309 : BitVec 32 := 1#32
  let v665 : BitVec 32 := Scalar.addi v2 c1_i32_309
  let c16_i32_310 : BitVec 32 := 16#32
  let c0_i32_311 : BitVec 32 := 0#32
  let v666 : BitVec 1 := Scalar.cmpi .eq c16_i32_310 c0_i32_311
  let c1_i32_312 : BitVec 32 := 1#32
  let v667 : BitVec 32 := Scalar.select v666 c1_i32_312 c16_i32_310
  let v668 : BitVec 32 := Scalar.remsi v665 v667
  let c0_i32_314 : BitVec 32 := 0#32
  let v670 : BitVec 1 := Scalar.cmpi .slt v668 c0_i32_314
  let c0_i32_315 : BitVec 32 := 0#32
  let v671 : BitVec 1 := Scalar.cmpi .slt v667 c0_i32_315
  let v672 : BitVec 1 := Scalar.xori v670 v671
  let c0_i32_313 : BitVec 32 := 0#32
  let v669 : BitVec 1 := Scalar.cmpi .ne v668 c0_i32_313
  let v673 : BitVec 1 := Scalar.andi v672 v669
  let v674 : BitVec 32 := Scalar.addi v668 v667
  let v675 : BitVec 32 := Scalar.select v673 v674 v668
  let c1_i32_320 : BitVec 32 := 1#32
  let v676 : BitVec 32 := Scalar.muli v675 c1_i32_320
  let v677 : BitVec 32 := Scalar.addi c0_i32_321 v676
  v677.toNat
def k0_dev17 (d0 : Dev nD) : Nat :=
  let c0_i32_338 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_326 : BitVec 32 := 2#32
  let v686 : BitVec 32 := Scalar.addi v2 c2_i32_326
  let c16_i32_327 : BitVec 32 := 16#32
  let c0_i32_328 : BitVec 32 := 0#32
  let v687 : BitVec 1 := Scalar.cmpi .eq c16_i32_327 c0_i32_328
  let c1_i32_329 : BitVec 32 := 1#32
  let v688 : BitVec 32 := Scalar.select v687 c1_i32_329 c16_i32_327
  let v689 : BitVec 32 := Scalar.remsi v686 v688
  let c0_i32_331 : BitVec 32 := 0#32
  let v691 : BitVec 1 := Scalar.cmpi .slt v689 c0_i32_331
  let c0_i32_332 : BitVec 32 := 0#32
  let v692 : BitVec 1 := Scalar.cmpi .slt v688 c0_i32_332
  let v693 : BitVec 1 := Scalar.xori v691 v692
  let c0_i32_330 : BitVec 32 := 0#32
  let v690 : BitVec 1 := Scalar.cmpi .ne v689 c0_i32_330
  let v694 : BitVec 1 := Scalar.andi v693 v690
  let v695 : BitVec 32 := Scalar.addi v689 v688
  let v696 : BitVec 32 := Scalar.select v694 v695 v689
  let c1_i32_337 : BitVec 32 := 1#32
  let v697 : BitVec 32 := Scalar.muli v696 c1_i32_337
  let v698 : BitVec 32 := Scalar.addi c0_i32_338 v697
  v698.toNat
def k0_dev18 (d0 : Dev nD) : Nat :=
  let c0_i32_354 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_342 : BitVec 32 := 3#32
  let v707 : BitVec 32 := Scalar.addi v2 c3_i32_342
  let c16_i32_343 : BitVec 32 := 16#32
  let c0_i32_344 : BitVec 32 := 0#32
  let v708 : BitVec 1 := Scalar.cmpi .eq c16_i32_343 c0_i32_344
  let c1_i32_345 : BitVec 32 := 1#32
  let v709 : BitVec 32 := Scalar.select v708 c1_i32_345 c16_i32_343
  let v710 : BitVec 32 := Scalar.remsi v707 v709
  let c0_i32_347 : BitVec 32 := 0#32
  let v712 : BitVec 1 := Scalar.cmpi .slt v710 c0_i32_347
  let c0_i32_348 : BitVec 32 := 0#32
  let v713 : BitVec 1 := Scalar.cmpi .slt v709 c0_i32_348
  let v714 : BitVec 1 := Scalar.xori v712 v713
  let c0_i32_346 : BitVec 32 := 0#32
  let v711 : BitVec 1 := Scalar.cmpi .ne v710 c0_i32_346
  let v715 : BitVec 1 := Scalar.andi v714 v711
  let v716 : BitVec 32 := Scalar.addi v710 v709
  let v717 : BitVec 32 := Scalar.select v715 v716 v710
  let c1_i32_353 : BitVec 32 := 1#32
  let v718 : BitVec 32 := Scalar.muli v717 c1_i32_353
  let v719 : BitVec 32 := Scalar.addi c0_i32_354 v718
  v719.toNat
def k0_dev19 (d0 : Dev nD) : Nat :=
  let c0_i32_370 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_358 : BitVec 32 := 4#32
  let v728 : BitVec 32 := Scalar.addi v2 c4_i32_358
  let c16_i32_359 : BitVec 32 := 16#32
  let c0_i32_360 : BitVec 32 := 0#32
  let v729 : BitVec 1 := Scalar.cmpi .eq c16_i32_359 c0_i32_360
  let c1_i32_361 : BitVec 32 := 1#32
  let v730 : BitVec 32 := Scalar.select v729 c1_i32_361 c16_i32_359
  let v731 : BitVec 32 := Scalar.remsi v728 v730
  let c0_i32_363 : BitVec 32 := 0#32
  let v733 : BitVec 1 := Scalar.cmpi .slt v731 c0_i32_363
  let c0_i32_364 : BitVec 32 := 0#32
  let v734 : BitVec 1 := Scalar.cmpi .slt v730 c0_i32_364
  let v735 : BitVec 1 := Scalar.xori v733 v734
  let c0_i32_362 : BitVec 32 := 0#32
  let v732 : BitVec 1 := Scalar.cmpi .ne v731 c0_i32_362
  let v736 : BitVec 1 := Scalar.andi v735 v732
  let v737 : BitVec 32 := Scalar.addi v731 v730
  let v738 : BitVec 32 := Scalar.select v736 v737 v731
  let c1_i32_369 : BitVec 32 := 1#32
  let v739 : BitVec 32 := Scalar.muli v738 c1_i32_369
  let v740 : BitVec 32 := Scalar.addi c0_i32_370 v739
  v740.toNat
def k0_dev20 (d0 : Dev nD) : Nat :=
  let c0_i32_528 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_516 : BitVec 32 := 5#32
  let v1146 : BitVec 32 := Scalar.addi v2 c5_i32_516
  let c16_i32_517 : BitVec 32 := 16#32
  let c0_i32_518 : BitVec 32 := 0#32
  let v1147 : BitVec 1 := Scalar.cmpi .eq c16_i32_517 c0_i32_518
  let c1_i32_519 : BitVec 32 := 1#32
  let v1148 : BitVec 32 := Scalar.select v1147 c1_i32_519 c16_i32_517
  let v1149 : BitVec 32 := Scalar.remsi v1146 v1148
  let c0_i32_521 : BitVec 32 := 0#32
  let v1151 : BitVec 1 := Scalar.cmpi .slt v1149 c0_i32_521
  let c0_i32_522 : BitVec 32 := 0#32
  let v1152 : BitVec 1 := Scalar.cmpi .slt v1148 c0_i32_522
  let v1153 : BitVec 1 := Scalar.xori v1151 v1152
  let c0_i32_520 : BitVec 32 := 0#32
  let v1150 : BitVec 1 := Scalar.cmpi .ne v1149 c0_i32_520
  let v1154 : BitVec 1 := Scalar.andi v1153 v1150
  let v1155 : BitVec 32 := Scalar.addi v1149 v1148
  let v1156 : BitVec 32 := Scalar.select v1154 v1155 v1149
  let c1_i32_527 : BitVec 32 := 1#32
  let v1157 : BitVec 32 := Scalar.muli v1156 c1_i32_527
  let v1158 : BitVec 32 := Scalar.addi c0_i32_528 v1157
  v1158.toNat
def k0_dev21 (d0 : Dev nD) : Nat :=
  let c0_i32_545 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_533 : BitVec 32 := 6#32
  let v1167 : BitVec 32 := Scalar.addi v2 c6_i32_533
  let c16_i32_534 : BitVec 32 := 16#32
  let c0_i32_535 : BitVec 32 := 0#32
  let v1168 : BitVec 1 := Scalar.cmpi .eq c16_i32_534 c0_i32_535
  let c1_i32_536 : BitVec 32 := 1#32
  let v1169 : BitVec 32 := Scalar.select v1168 c1_i32_536 c16_i32_534
  let v1170 : BitVec 32 := Scalar.remsi v1167 v1169
  let c0_i32_538 : BitVec 32 := 0#32
  let v1172 : BitVec 1 := Scalar.cmpi .slt v1170 c0_i32_538
  let c0_i32_539 : BitVec 32 := 0#32
  let v1173 : BitVec 1 := Scalar.cmpi .slt v1169 c0_i32_539
  let v1174 : BitVec 1 := Scalar.xori v1172 v1173
  let c0_i32_537 : BitVec 32 := 0#32
  let v1171 : BitVec 1 := Scalar.cmpi .ne v1170 c0_i32_537
  let v1175 : BitVec 1 := Scalar.andi v1174 v1171
  let v1176 : BitVec 32 := Scalar.addi v1170 v1169
  let v1177 : BitVec 32 := Scalar.select v1175 v1176 v1170
  let c1_i32_544 : BitVec 32 := 1#32
  let v1178 : BitVec 32 := Scalar.muli v1177 c1_i32_544
  let v1179 : BitVec 32 := Scalar.addi c0_i32_545 v1178
  v1179.toNat
def k0_dev22 (d0 : Dev nD) : Nat :=
  let c0_i32_562 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_550 : BitVec 32 := 7#32
  let v1188 : BitVec 32 := Scalar.addi v2 c7_i32_550
  let c16_i32_551 : BitVec 32 := 16#32
  let c0_i32_552 : BitVec 32 := 0#32
  let v1189 : BitVec 1 := Scalar.cmpi .eq c16_i32_551 c0_i32_552
  let c1_i32_553 : BitVec 32 := 1#32
  let v1190 : BitVec 32 := Scalar.select v1189 c1_i32_553 c16_i32_551
  let v1191 : BitVec 32 := Scalar.remsi v1188 v1190
  let c0_i32_555 : BitVec 32 := 0#32
  let v1193 : BitVec 1 := Scalar.cmpi .slt v1191 c0_i32_555
  let c0_i32_556 : BitVec 32 := 0#32
  let v1194 : BitVec 1 := Scalar.cmpi .slt v1190 c0_i32_556
  let v1195 : BitVec 1 := Scalar.xori v1193 v1194
  let c0_i32_554 : BitVec 32 := 0#32
  let v1192 : BitVec 1 := Scalar.cmpi .ne v1191 c0_i32_554
  let v1196 : BitVec 1 := Scalar.andi v1195 v1192
  let v1197 : BitVec 32 := Scalar.addi v1191 v1190
  let v1198 : BitVec 32 := Scalar.select v1196 v1197 v1191
  let c1_i32_561 : BitVec 32 := 1#32
  let v1199 : BitVec 32 := Scalar.muli v1198 c1_i32_561
  let v1200 : BitVec 32 := Scalar.addi c0_i32_562 v1199
  v1200.toNat
def k0_dev23 (d0 : Dev nD) : Nat :=
  let c0_i32_579 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_567 : BitVec 32 := 8#32
  let v1209 : BitVec 32 := Scalar.addi v2 c8_i32_567
  let c16_i32_568 : BitVec 32 := 16#32
  let c0_i32_569 : BitVec 32 := 0#32
  let v1210 : BitVec 1 := Scalar.cmpi .eq c16_i32_568 c0_i32_569
  let c1_i32_570 : BitVec 32 := 1#32
  let v1211 : BitVec 32 := Scalar.select v1210 c1_i32_570 c16_i32_568
  let v1212 : BitVec 32 := Scalar.remsi v1209 v1211
  let c0_i32_572 : BitVec 32 := 0#32
  let v1214 : BitVec 1 := Scalar.cmpi .slt v1212 c0_i32_572
  let c0_i32_573 : BitVec 32 := 0#32
  let v1215 : BitVec 1 := Scalar.cmpi .slt v1211 c0_i32_573
  let v1216 : BitVec 1 := Scalar.xori v1214 v1215
  let c0_i32_571 : BitVec 32 := 0#32
  let v1213 : BitVec 1 := Scalar.cmpi .ne v1212 c0_i32_571
  let v1217 : BitVec 1 := Scalar.andi v1216 v1213
  let v1218 : BitVec 32 := Scalar.addi v1212 v1211
  let v1219 : BitVec 32 := Scalar.select v1217 v1218 v1212
  let c1_i32_578 : BitVec 32 := 1#32
  let v1220 : BitVec 32 := Scalar.muli v1219 c1_i32_578
  let v1221 : BitVec 32 := Scalar.addi c0_i32_579 v1220
  v1221.toNat
def k0_dev24 (d0 : Dev nD) : Nat :=
  let c0_i32_738 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_726 : BitVec 32 := 9#32
  let v1627 : BitVec 32 := Scalar.addi v2 c9_i32_726
  let c16_i32_727 : BitVec 32 := 16#32
  let c0_i32_728 : BitVec 32 := 0#32
  let v1628 : BitVec 1 := Scalar.cmpi .eq c16_i32_727 c0_i32_728
  let c1_i32_729 : BitVec 32 := 1#32
  let v1629 : BitVec 32 := Scalar.select v1628 c1_i32_729 c16_i32_727
  let v1630 : BitVec 32 := Scalar.remsi v1627 v1629
  let c0_i32_731 : BitVec 32 := 0#32
  let v1632 : BitVec 1 := Scalar.cmpi .slt v1630 c0_i32_731
  let c0_i32_732 : BitVec 32 := 0#32
  let v1633 : BitVec 1 := Scalar.cmpi .slt v1629 c0_i32_732
  let v1634 : BitVec 1 := Scalar.xori v1632 v1633
  let c0_i32_730 : BitVec 32 := 0#32
  let v1631 : BitVec 1 := Scalar.cmpi .ne v1630 c0_i32_730
  let v1635 : BitVec 1 := Scalar.andi v1634 v1631
  let v1636 : BitVec 32 := Scalar.addi v1630 v1629
  let v1637 : BitVec 32 := Scalar.select v1635 v1636 v1630
  let c1_i32_737 : BitVec 32 := 1#32
  let v1638 : BitVec 32 := Scalar.muli v1637 c1_i32_737
  let v1639 : BitVec 32 := Scalar.addi c0_i32_738 v1638
  v1639.toNat
def k0_dev25 (d0 : Dev nD) : Nat :=
  let c0_i32_755 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_743 : BitVec 32 := 10#32
  let v1648 : BitVec 32 := Scalar.addi v2 c10_i32_743
  let c16_i32_744 : BitVec 32 := 16#32
  let c0_i32_745 : BitVec 32 := 0#32
  let v1649 : BitVec 1 := Scalar.cmpi .eq c16_i32_744 c0_i32_745
  let c1_i32_746 : BitVec 32 := 1#32
  let v1650 : BitVec 32 := Scalar.select v1649 c1_i32_746 c16_i32_744
  let v1651 : BitVec 32 := Scalar.remsi v1648 v1650
  let c0_i32_748 : BitVec 32 := 0#32
  let v1653 : BitVec 1 := Scalar.cmpi .slt v1651 c0_i32_748
  let c0_i32_749 : BitVec 32 := 0#32
  let v1654 : BitVec 1 := Scalar.cmpi .slt v1650 c0_i32_749
  let v1655 : BitVec 1 := Scalar.xori v1653 v1654
  let c0_i32_747 : BitVec 32 := 0#32
  let v1652 : BitVec 1 := Scalar.cmpi .ne v1651 c0_i32_747
  let v1656 : BitVec 1 := Scalar.andi v1655 v1652
  let v1657 : BitVec 32 := Scalar.addi v1651 v1650
  let v1658 : BitVec 32 := Scalar.select v1656 v1657 v1651
  let c1_i32_754 : BitVec 32 := 1#32
  let v1659 : BitVec 32 := Scalar.muli v1658 c1_i32_754
  let v1660 : BitVec 32 := Scalar.addi c0_i32_755 v1659
  v1660.toNat
def k0_dev26 (d0 : Dev nD) : Nat :=
  let c0_i32_772 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_760 : BitVec 32 := 11#32
  let v1669 : BitVec 32 := Scalar.addi v2 c11_i32_760
  let c16_i32_761 : BitVec 32 := 16#32
  let c0_i32_762 : BitVec 32 := 0#32
  let v1670 : BitVec 1 := Scalar.cmpi .eq c16_i32_761 c0_i32_762
  let c1_i32_763 : BitVec 32 := 1#32
  let v1671 : BitVec 32 := Scalar.select v1670 c1_i32_763 c16_i32_761
  let v1672 : BitVec 32 := Scalar.remsi v1669 v1671
  let c0_i32_765 : BitVec 32 := 0#32
  let v1674 : BitVec 1 := Scalar.cmpi .slt v1672 c0_i32_765
  let c0_i32_766 : BitVec 32 := 0#32
  let v1675 : BitVec 1 := Scalar.cmpi .slt v1671 c0_i32_766
  let v1676 : BitVec 1 := Scalar.xori v1674 v1675
  let c0_i32_764 : BitVec 32 := 0#32
  let v1673 : BitVec 1 := Scalar.cmpi .ne v1672 c0_i32_764
  let v1677 : BitVec 1 := Scalar.andi v1676 v1673
  let v1678 : BitVec 32 := Scalar.addi v1672 v1671
  let v1679 : BitVec 32 := Scalar.select v1677 v1678 v1672
  let c1_i32_771 : BitVec 32 := 1#32
  let v1680 : BitVec 32 := Scalar.muli v1679 c1_i32_771
  let v1681 : BitVec 32 := Scalar.addi c0_i32_772 v1680
  v1681.toNat
def k0_dev27 (d0 : Dev nD) : Nat :=
  let c0_i32_789 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_777 : BitVec 32 := 12#32
  let v1690 : BitVec 32 := Scalar.addi v2 c12_i32_777
  let c16_i32_778 : BitVec 32 := 16#32
  let c0_i32_779 : BitVec 32 := 0#32
  let v1691 : BitVec 1 := Scalar.cmpi .eq c16_i32_778 c0_i32_779
  let c1_i32_780 : BitVec 32 := 1#32
  let v1692 : BitVec 32 := Scalar.select v1691 c1_i32_780 c16_i32_778
  let v1693 : BitVec 32 := Scalar.remsi v1690 v1692
  let c0_i32_782 : BitVec 32 := 0#32
  let v1695 : BitVec 1 := Scalar.cmpi .slt v1693 c0_i32_782
  let c0_i32_783 : BitVec 32 := 0#32
  let v1696 : BitVec 1 := Scalar.cmpi .slt v1692 c0_i32_783
  let v1697 : BitVec 1 := Scalar.xori v1695 v1696
  let c0_i32_781 : BitVec 32 := 0#32
  let v1694 : BitVec 1 := Scalar.cmpi .ne v1693 c0_i32_781
  let v1698 : BitVec 1 := Scalar.andi v1697 v1694
  let v1699 : BitVec 32 := Scalar.addi v1693 v1692
  let v1700 : BitVec 32 := Scalar.select v1698 v1699 v1693
  let c1_i32_788 : BitVec 32 := 1#32
  let v1701 : BitVec 32 := Scalar.muli v1700 c1_i32_788
  let v1702 : BitVec 32 := Scalar.addi c0_i32_789 v1701
  v1702.toNat
def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_896 : BitVec 32 := 128#32
  let v2002 : BitVec 32 := Scalar.muli v2 c128_i32_896
  let v2003 : Index := Scalar.indexCast v2002
  let c0_897 : Index := 0#32
  ![v2003.toNat, 0]
def k0_off4 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_896 : BitVec 32 := 128#32
  let v2002 : BitVec 32 := Scalar.muli v2 c128_i32_896
  let v2005 : Index := Scalar.indexCast v2002
  let c0_898 : Index := 0#32
  ![v2005.toNat, 0]
def k0_dev28 (d0 : Dev nD) : Nat :=
  let c0_i32_941 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_929 : BitVec 32 := 13#32
  let v2097 : BitVec 32 := Scalar.addi v2 c13_i32_929
  let c16_i32_930 : BitVec 32 := 16#32
  let c0_i32_931 : BitVec 32 := 0#32
  let v2098 : BitVec 1 := Scalar.cmpi .eq c16_i32_930 c0_i32_931
  let c1_i32_932 : BitVec 32 := 1#32
  let v2099 : BitVec 32 := Scalar.select v2098 c1_i32_932 c16_i32_930
  let v2100 : BitVec 32 := Scalar.remsi v2097 v2099
  let c0_i32_934 : BitVec 32 := 0#32
  let v2102 : BitVec 1 := Scalar.cmpi .slt v2100 c0_i32_934
  let c0_i32_935 : BitVec 32 := 0#32
  let v2103 : BitVec 1 := Scalar.cmpi .slt v2099 c0_i32_935
  let v2104 : BitVec 1 := Scalar.xori v2102 v2103
  let c0_i32_933 : BitVec 32 := 0#32
  let v2101 : BitVec 1 := Scalar.cmpi .ne v2100 c0_i32_933
  let v2105 : BitVec 1 := Scalar.andi v2104 v2101
  let v2106 : BitVec 32 := Scalar.addi v2100 v2099
  let v2107 : BitVec 32 := Scalar.select v2105 v2106 v2100
  let c1_i32_940 : BitVec 32 := 1#32
  let v2108 : BitVec 32 := Scalar.muli v2107 c1_i32_940
  let v2109 : BitVec 32 := Scalar.addi c0_i32_941 v2108
  v2109.toNat
def k0_dev29 (d0 : Dev nD) : Nat :=
  let c0_i32_958 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_946 : BitVec 32 := 14#32
  let v2118 : BitVec 32 := Scalar.addi v2 c14_i32_946
  let c16_i32_947 : BitVec 32 := 16#32
  let c0_i32_948 : BitVec 32 := 0#32
  let v2119 : BitVec 1 := Scalar.cmpi .eq c16_i32_947 c0_i32_948
  let c1_i32_949 : BitVec 32 := 1#32
  let v2120 : BitVec 32 := Scalar.select v2119 c1_i32_949 c16_i32_947
  let v2121 : BitVec 32 := Scalar.remsi v2118 v2120
  let c0_i32_951 : BitVec 32 := 0#32
  let v2123 : BitVec 1 := Scalar.cmpi .slt v2121 c0_i32_951
  let c0_i32_952 : BitVec 32 := 0#32
  let v2124 : BitVec 1 := Scalar.cmpi .slt v2120 c0_i32_952
  let v2125 : BitVec 1 := Scalar.xori v2123 v2124
  let c0_i32_950 : BitVec 32 := 0#32
  let v2122 : BitVec 1 := Scalar.cmpi .ne v2121 c0_i32_950
  let v2126 : BitVec 1 := Scalar.andi v2125 v2122
  let v2127 : BitVec 32 := Scalar.addi v2121 v2120
  let v2128 : BitVec 32 := Scalar.select v2126 v2127 v2121
  let c1_i32_957 : BitVec 32 := 1#32
  let v2129 : BitVec 32 := Scalar.muli v2128 c1_i32_957
  let v2130 : BitVec 32 := Scalar.addi c0_i32_958 v2129
  v2130.toNat
def k0_dev30 (d0 : Dev nD) : Nat :=
  let c0_i32_975 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_963 : BitVec 32 := 15#32
  let v2139 : BitVec 32 := Scalar.addi v2 c15_i32_963
  let c16_i32_964 : BitVec 32 := 16#32
  let c0_i32_965 : BitVec 32 := 0#32
  let v2140 : BitVec 1 := Scalar.cmpi .eq c16_i32_964 c0_i32_965
  let c1_i32_966 : BitVec 32 := 1#32
  let v2141 : BitVec 32 := Scalar.select v2140 c1_i32_966 c16_i32_964
  let v2142 : BitVec 32 := Scalar.remsi v2139 v2141
  let c0_i32_968 : BitVec 32 := 0#32
  let v2144 : BitVec 1 := Scalar.cmpi .slt v2142 c0_i32_968
  let c0_i32_969 : BitVec 32 := 0#32
  let v2145 : BitVec 1 := Scalar.cmpi .slt v2141 c0_i32_969
  let v2146 : BitVec 1 := Scalar.xori v2144 v2145
  let c0_i32_967 : BitVec 32 := 0#32
  let v2143 : BitVec 1 := Scalar.cmpi .ne v2142 c0_i32_967
  let v2147 : BitVec 1 := Scalar.andi v2146 v2143
  let v2148 : BitVec 32 := Scalar.addi v2142 v2141
  let v2149 : BitVec 32 := Scalar.select v2147 v2148 v2142
  let c1_i32_974 : BitVec 32 := 1#32
  let v2150 : BitVec 32 := Scalar.muli v2149 c1_i32_974
  let v2151 : BitVec 32 := Scalar.addi c0_i32_975 v2150
  v2151.toNat
abbrev stage0_0 : Fin 1 → Memref sig .tc .vmem S64x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2048x512 : Shape := ⟨2, ![2048, 512]⟩
abbrev S512x64 : Shape := ⟨2, ![512, 64]⟩
abbrev S2048x1 : Shape := ⟨2, ![2048, 1]⟩
abbrev S64x512x1024 : Shape := ⟨3, ![64, 512, 1024]⟩
abbrev S512x1024 : Shape := ⟨2, ![512, 1024]⟩
abbrev S2048x64 : Shape := ⟨2, ![2048, 64]⟩
abbrev S_ : Shape := ⟨0, ![]⟩
abbrev S2048 : Shape := ⟨1, ![2048]⟩
abbrev S2048x1024 : Shape := ⟨2, ![2048, 1024]⟩
abbrev S64 : Shape := ⟨1, ![64]⟩
abbrev S2048x64x1024 : Shape := ⟨3, ![2048, 64, 1024]⟩
abbrev S1x64 : Shape := ⟨2, ![1, 64]⟩
abbrev S2048x64x1 : Shape := ⟨3, ![2048, 64, 1]⟩

abbrev nBuf : Space → Nat
  | .hbm => 36
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S512x64, .f32⟩
  | .hbm, ⟨2, _⟩ => ⟨S2048x1, .i32⟩
  | .hbm, ⟨3, _⟩ => ⟨S64x512x1024, .f32⟩
  | .hbm, ⟨4, _⟩ => ⟨S512x1024, .f32⟩
  | .hbm, ⟨5, _⟩ => ⟨S2048x64, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S2048x64, .f32⟩
  | .hbm, ⟨10, _⟩ => ⟨S2048x64, .f32⟩
  | .hbm, ⟨11, _⟩ => ⟨S2048x64, .f32⟩
  | .hbm, ⟨12, _⟩ => ⟨S_, .f32⟩
  | .hbm, ⟨13, _⟩ => ⟨S2048, .f32⟩
  | .hbm, ⟨14, _⟩ => ⟨S2048x1, .f32⟩
  | .hbm, ⟨15, _⟩ => ⟨S2048x64, .f32⟩
  | .hbm, ⟨16, _⟩ => ⟨S2048x64, .f32⟩
  | .hbm, ⟨17, _⟩ => ⟨S2048x1024, .f32⟩
  | .hbm, ⟨18, _⟩ => ⟨S64, .i32⟩
  | .hbm, ⟨19, _⟩ => ⟨S2048x64x1024, .f32⟩
  | .hbm, ⟨20, _⟩ => ⟨S1x64, .i32⟩
  | .hbm, ⟨21, _⟩ => ⟨S2048x64, .i32⟩
  | .hbm, ⟨22, _⟩ => ⟨S2048x64, .i32⟩
  | .hbm, ⟨23, _⟩ => ⟨S2048x64, .i1⟩
  | .hbm, ⟨24, _⟩ => ⟨S2048x64x1, .i1⟩
  | .hbm, ⟨25, _⟩ => ⟨S2048x64x1, .f32⟩
  | .hbm, ⟨26, _⟩ => ⟨S2048x64x1024, .f32⟩
  | .hbm, ⟨27, _⟩ => ⟨S2048x64x1024, .f32⟩
  | .hbm, ⟨28, _⟩ => ⟨S_, .f32⟩
  | .hbm, ⟨29, _⟩ => ⟨S_, .f32⟩
  | .hbm, ⟨30, _⟩ => ⟨S2048x64x1024, .i1⟩
  | .hbm, ⟨31, _⟩ => ⟨S2048x64x1024, .f32⟩
  | .hbm, ⟨32, _⟩ => ⟨S2048x64x1024, .f32⟩
  | .hbm, ⟨33, _⟩ => ⟨S_, .f32⟩
  | .hbm, ⟨34, _⟩ => ⟨S2048x1024, .f32⟩
  | .hbm, ⟨35, _⟩ => ⟨S2048x1024, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_1 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩

abbrev nD : Nat := 1
abbrev τ : Topo := Topo.v7x

variable {F : FTy → Type} [FloatOps F]
-- ==== Proof.Schedule.lean ====
/-
  The protocol of the ring exchange, as a schedule of rounds.

  Slots are numbered `k : Fin 15`. Device `c` writes slot `k` of the device `up c k = c - k - 1 (mod 16)`; the other way
  round, slot `k` of device `c` is written by `dn c k = c + k + 1 (mod 16)`.

  * BARRIER cell of device `c`, round 0, fifteen duties of one unit. Duty `k` is paid by `up c k`, with its slot `k` at
    any contents and the fact that round 0 of its arrival cell `k` is reached.
  * ARRIVAL cell `k` of device `c`, round 0, one duty. It is paid by the copy that `dn c k` enqueues, with slot `k` of `c`
    at the contents `RB c`.
  * DEPARTURE cell `k` of device `c`, round 0, one duty. It is paid by the copy that `c` enqueues from its send slice `k`,
    with that slice back at the contents `SB c`. It lies on semaphore `14 - k`.

  A device waits for its fifteen barrier units first. Then it sends slot 14 first and slot 0 last, and at the end it waits
  for every departure and arrival in the same order. `SB` and `RB` are parameters here; the run chooses them.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Rounds
public import Idealize.ShloMosaic.Lib.Transfers
public import Idealize.ShloMosaic.Lib.Tactic

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Resource algebra -/

/-- The exchange's rounds library and the local copies' counters. -/
abbrev UT : Type := URounds (GSem nD τ sig) (Fin 15) × Counters
/-- The pipeline's rounds library on the left. -/
abbrev UU : Type := UR sig nD τ × UT

local notation "𝕄" => MT nD τ sig Unit (Elt F) ℕ UU ℕ

/-- The part of the resources that the pipeline's own bookkeeping uses. -/
abbrev EP : Emb (UR sig nD τ) (MT nD τ sig Unit (Elt F) ℕ UU ℕ) := embL
/-- The exchange's rounds library inside the machine's algebra. -/
def ER : Emb (URounds (GSem nD τ sig) (Fin 15)) (MT nD τ sig Unit (Elt F) ℕ UU ℕ) :=
  ((Emb.inl : Emb (URounds (GSem nD τ sig) (Fin 15)) UT).trans (Emb.inr : Emb UT UU)).trans
    (uEmb (nD := nD) (sig := sig) (Ix := Unit) (Val := Elt F) (Name := ℕ) (U := UU) (Lvl := ℕ)).toEmb
/-- The rounds' resources lie in the part that invariants may hold. -/
instance ER_landsIn : (ER (F := F)).LandsIn (upEmb : UEmb _ 𝕄) := by unfold ER; infer_instance

/-! ## Devices, semaphores, memrefs -/

/-- The device that writes slot `k` of `c`. -/
def dn (c : Dev nD) (k : Fin 15) : Dev nD := ⟨(c.val + k.val + 1) % 16, Nat.mod_lt _ (by decide)⟩
/-- The device whose slot `k` the device `c` writes. -/
def up (c : Dev nD) (k : Fin 15) : Dev nD := ⟨(c.val + 15 - k.val) % 16, Nat.mod_lt _ (by decide)⟩
/-- `up` undoes `dn`, -/
theorem up_dn (c : Dev nD) (k : Fin 15) : up (dn c k) k = c := by revert c k; decide
/-- and `dn` undoes `up`. -/
theorem dn_up (c : Dev nD) (k : Fin 15) : dn (up c k) k = c := by revert c k; decide
/-- The ring by `k + 1` steps, as a permutation. -/
def ring (k : Fin 15) : Dev nD ≃ Dev nD := ⟨fun c => dn c k, fun c => up c k, fun c => up_dn c k, fun c => dn_up c k⟩

/-- The barrier semaphore. -/
abbrev barS : Sem sig := sig.barrier 0 rfl
/-- The departure semaphore of slot `k`. -/
def sendS (k : Fin 15) : DmaSem sig := ⟨16 - k.val, by have := k.isLt; show 16 - k.val < 35; omega⟩
/-- The arrival semaphore of slot `k`. -/
def recvS (k : Fin 15) : DmaSem sig := ⟨17 + k.val, by have := k.isLt; show 17 + k.val < 35; omega⟩

abbrev barCell (c : Dev nD) : GSem nD τ sig := ((c : Thread nD τ), .reg barS)
/-- The departure counter of slot `k` on device `c`. -/
abbrev sendCell (c : Dev nD) (k : Fin 15) : GSem nD τ sig := ((c : Thread nD τ), .dma (sendS k))
/-- The arrival counter of slot `k` on device `c`. -/
abbrev recvCell (c : Dev nD) (k : Fin 15) : GSem nD τ sig := ((c : Thread nD τ), .dma (recvS k))

/-- The send buffer and the receive buffer. -/
abbrev sbM : Memref sig .tc .vmem S4x128x1152 .bf16 := Memref.whole cc0_scratch8
/-- The receive buffer. -/
abbrev rbM : Memref sig .tc .vmem S15x32x1152 .bf16 := Memref.whole cc0_scratch9

/-- A slot lies in the receive buffer, -/
theorem slot_inb (k : Fin 15) : ∀ a, (![k.val, 0, 0] : Fin 3 → ℕ) a + S1x32x1152.size a ≤ S15x32x1152.size a := by
  revert k; decide
/-- and a slice in the send buffer. -/
theorem part_inb (k : Fin 15) : ∀ a, (![(14 - k.val) / 4, 32 * ((14 - k.val) % 4), 0] : Fin 3 → ℕ) a + S1x32x1152.size a ≤ S4x128x1152.size a := by
  revert k; decide
/-- Slot `k` of the receive buffer. -/
abbrev slotM (k : Fin 15) : Memref sig .tc .vmem S32x1152 .bf16 :=
  (rbM.slice (Rect.unit (s := S15x32x1152) ![k.val, 0, 0] S1x32x1152.size (slot_inb k)) (fun _ => rfl)).squeeze S32x1152 Facts₀.squeezes_S1x32x1152_S32x1152
/-- The slice of the send buffer that goes to slot `k`. -/
abbrev partM (k : Fin 15) : Memref sig .tc .vmem S32x1152 .bf16 :=
  (sbM.slice (Rect.unit (s := S4x128x1152) ![(14 - k.val) / 4, 32 * ((14 - k.val) % 4), 0] S1x32x1152.size (part_inb k)) (fun _ => rfl)).squeeze S32x1152 Facts₀.squeezes_S1x32x1152_S32x1152

/-- What one copy credits. -/
abbrev N : ℕ := (slotM 0).view.dmaCredit
/-- A copy credits its counter with at least one unit. -/
theorem N_pos : 0 < N := View.dmaCredit_pos _ (by decide)

-- `SB`, `RB`: contents of the send buffers and of the receive buffers, device by device.
variable (SB : Dev nD → (cc0_scratch8 : Ref sig .tc).ty.Contents (Elt F)) (RB : Dev nD → (cc0_scratch9 : Ref sig .tc).ty.Contents (Elt F))

/-- Slot `k` of device `c` at contents `f`. -/
abbrev slotPts (c : Dev nD) (k : Fin 15) (f : (cc0_scratch9 : Ref sig .tc).ty.Contents (Elt F)) : sProp 𝕄 :=
  (slotM k).view.loc (c : Thread nD τ) ↦[(slotM k).view.set]{fullShare} f
/-- Send slice `k` of device `c` at contents `f`. -/
abbrev partPts (c : Dev nD) (k : Fin 15) (f : (cc0_scratch8 : Ref sig .tc).ty.Contents (Elt F)) : sProp 𝕄 :=
  (partM k).view.loc (c : Thread nD τ) ↦[(partM k).view.set]{fullShare} f

/-! ## The schedule -/

/-- What duty `k` of the barrier cell of `c` hands over. -/
def barPay (c : Dev nD) (k : Fin 15) : sProp 𝕄 := iprop((∃ f, slotPts (up c k) k f) ∗ reached ER (recvCell (up c k) k) 0)

/-- The slot whose departure cell is semaphore `s`; the slot whose arrival cell it is. -/
def sendIx (s : SemLoc sig) : Option (Fin 15) := match s with
  | .dma i => if h : 2 ≤ i.val ∧ i.val < 17 then some ⟨16 - i.val, by omega⟩ else none
  | _ => none
/-- The slot of an arrival counter. -/
def recvIx (s : SemLoc sig) : Option (Fin 15) := match s with
  | .dma i => if h : 17 ≤ i.val ∧ i.val < 32 then some ⟨i.val - 17, by omega⟩ else none
  | _ => none
/-- A departure counter is that of its slot, -/
theorem sendIx_send (k : Fin 15) : sendIx (.dma (sendS k)) = some k := by revert k; decide
/-- an arrival counter is that of its slot, -/
theorem recvIx_recv (k : Fin 15) : recvIx (.dma (recvS k)) = some k := by revert k; decide
/-- no departure counter is an arrival counter, -/
theorem recvIx_send (k : Fin 15) : recvIx (.dma (sendS k)) = none := by revert k; decide
/-- no arrival counter is a departure counter, -/
theorem sendIx_recv (k : Fin 15) : sendIx (.dma (recvS k)) = none := by revert k; decide
/-- and neither kind is the barrier's: -/
theorem send_ne_bar (k : Fin 15) : (SemLoc.dma (sendS k) : SemLoc sig) ≠ .reg barS := fun h => by cases h
/-- arrival counters likewise. -/
theorem recv_ne_bar (k : Fin 15) : (SemLoc.dma (recvS k) : SemLoc sig) ≠ .reg barS := fun h => by cases h

/-- Round 0 only: fifteen duties on a barrier cell, one on each departure and each arrival cell. -/
def rd : Rounds.Schedule (GSem nD τ sig) (Fin 15) 𝕄 where
  duties g r := if r = 0 ∧ g.1.2 = .tc then
      (if g.2 = .reg barS then Finset.univ else if (sendIx g.2).isSome ∨ (recvIx g.2).isSome then {0} else ∅)
    else ∅
  unitless _ := False
  amount g _ _ := if g.2 = .reg barS then 1 else N
  payload g _ d :=
    if g.2 = .reg barS then barPay g.1.1 d
    else match sendIx g.2, recvIx g.2 with
      | some k, _ => partPts g.1.1 k (SB g.1.1)
      | none, some k => slotPts g.1.1 k (RB g.1.1)
      | none, none => iprop(emp)
  amount_pos g _ _ _ := by
    by_cases h : g.2 = .reg barS
    · rw [if_pos h]; exact Nat.one_pos
    · rw [if_neg h]; exact N_pos

/-- What a duty carries may be kept in an invariant. -/
instance rd_payload_storable (g : GSem nD τ sig) (r : ℕ) (d : Fin 15) :
    BI.Storable (upEmb : UEmb _ 𝕄) ((rd SB RB).payload g r d) := by
  show BI.Storable upEmb (if g.2 = .reg barS then barPay g.1.1 d
    else match sendIx g.2, recvIx g.2 with
      | some k, _ => partPts g.1.1 k (SB g.1.1)
      | none, some k => slotPts g.1.1 k (RB g.1.1)
      | none, none => iprop(emp))
  unfold barPay
  (repeat' split) <;> infer_instance

section Tables

variable (c : Dev nD) (k : Fin 15)

/-- The barrier's round has all fifteen duties; -/
theorem duties_bar : (rd SB RB).duties (barCell c) 0 = Finset.univ := by
  dsimp only [rd]; rw [if_pos ⟨rfl, rfl⟩, if_pos rfl]
/-- a departure's has one, -/
theorem duties_send : (rd SB RB).duties (sendCell c k) 0 = {0} := by
  dsimp only [rd]; rw [if_pos ⟨rfl, rfl⟩, if_neg (send_ne_bar k), if_pos (.inl (by rw [sendIx_send]; rfl))]
/-- an arrival's has one, -/
theorem duties_recv : (rd SB RB).duties (recvCell c k) 0 = {0} := by
  dsimp only [rd]; rw [if_pos ⟨rfl, rfl⟩, if_neg (recv_ne_bar k), if_pos (.inr (by rw [recvIx_recv]; rfl))]
/-- and no cell has a later round. -/
theorem duties_later (g : GSem nD τ sig) : ∀ r, 1 ≤ r → (rd SB RB).duties g r = ∅ :=
  fun r hr => by dsimp only [rd]; rw [if_neg (fun h => by omega)]

/-- A barrier duty is one unit; -/
theorem amount_bar (u : Fin 15) : (rd SB RB).amount (barCell c) 0 u = 1 := by dsimp only [rd]; exact if_pos rfl
/-- a departure's is a copy's credit, -/
theorem amount_send (u : Fin 15) : (rd SB RB).amount (sendCell c k) 0 u = N := by dsimp only [rd]; exact if_neg (send_ne_bar k)
/-- an arrival's too. -/
theorem amount_recv (u : Fin 15) : (rd SB RB).amount (recvCell c k) 0 u = N := by dsimp only [rd]; exact if_neg (recv_ne_bar k)

/-- The barrier's wait is for fifteen units, -/
theorem expect_bar : (rd SB RB).expect (barCell c) 0 = 15 := by
  unfold Schedule.expect Schedule.amountOf
  rw [duties_bar, Finset.sum_congr rfl fun u _ => amount_bar SB RB c u]; rfl
/-- a departure's for one copy's credit, -/
theorem expect_send : (rd SB RB).expect (sendCell c k) 0 = N := by
  unfold Schedule.expect Schedule.amountOf; rw [duties_send, Finset.sum_singleton, amount_send]
/-- an arrival's too. -/
theorem expect_recv : (rd SB RB).expect (recvCell c k) 0 = N := by
  unfold Schedule.expect Schedule.amountOf; rw [duties_recv, Finset.sum_singleton, amount_recv]

/-- What a barrier duty carries, -/
theorem payload_bar (u : Fin 15) : (rd SB RB).payload (barCell c) 0 u = barPay c u := by dsimp only [rd]; exact if_pos rfl
/-- what a departure gives back, -/
theorem payload_send (u : Fin 15) : (rd SB RB).payload (sendCell c k) 0 u = partPts c k (SB c) := by
  dsimp only [rd]; rw [if_neg (send_ne_bar k), sendIx_send]
/-- and what an arrival brings. -/
theorem payload_recv (u : Fin 15) : (rd SB RB).payload (recvCell c k) 0 u = slotPts c k (RB c) := by
  dsimp only [rd]; rw [if_neg (recv_ne_bar k), sendIx_recv, recvIx_recv]

/-- All that the barrier's wait yields, -/
theorem rest_bar : bigSep ((rd SB RB).duties (barCell c) 0 \ ∅) (fun u => (rd SB RB).payload (barCell c) 0 u)
    = bigSep Finset.univ (fun u => barPay (F := F) c u) := by
  rw [Finset.sdiff_empty, duties_bar]; exact bigSep_congr fun u _ => payload_bar SB RB c u
/-- all that a departure's wait yields, -/
theorem rest_send : bigSep ((rd SB RB).duties (sendCell c k) 0 \ ∅) (fun u => (rd SB RB).payload (sendCell c k) 0 u) = partPts c k (SB c) := by
  rw [Finset.sdiff_empty, duties_send, bigSep_singleton, payload_send]
/-- and all that an arrival's yields. -/
theorem rest_recv : bigSep ((rd SB RB).duties (recvCell c k) 0 \ ∅) (fun u => (rd SB RB).payload (recvCell c k) 0 u) = slotPts c k (RB c) := by
  rw [Finset.sdiff_empty, duties_recv, bigSep_singleton, payload_recv]

end Tables

/-! ## What a device owes; the levels -/

/-- The arrivals still to be paid: those of the slots below `n`, the highest first. -/
def oweR (c : Dev nD) : ℕ → CellTallies nD τ sig Unit
  | 0 => 0
  | n + 1 => oweR c n + (if h : n < 15 then tallyAt (recvCell (up c ⟨n, h⟩) ⟨n, h⟩) () N else 0)
/-- The barrier units still to be paid, `n` of them, beside all the arrivals. -/
def oweB (c : Dev nD) : ℕ → CellTallies nD τ sig Unit
  | 0 => oweR c 15
  | n + 1 => oweB c n + (if h : n < 15 then tallyAt (barCell (dn c ⟨14 - n, by omega⟩)) () 1 else 0)
/-- What a device owes at launch. -/
abbrev O₀ (c : Dev nD) : CellTallies nD τ sig Unit := oweB c 15

/-- Every cell of a TensorCore has a level. -/
def L (g : GSem nD τ sig) : Finset Unit := if g.1.2 = .tc then {()} else ∅
/-- Barrier cells at 1, arrival cells at 2, the rest at 0. -/
def lv (g : GSem nD τ sig) (_ : Unit) : ℕ := if g.2 = .reg barS then 1 else if (recvIx g.2).isSome then 2 else 0

/-- Only the TensorCores' cells take part. -/
theorem L_of_ne (g : GSem nD τ sig) (h : g.1.2 ≠ .tc) : L g = ∅ := if_neg h
/-- Each of those has one debt index. -/
theorem L_tc (c : Dev nD) (sm : SemLoc sig) : L ((c : Thread nD τ), sm) = {()} := if_pos rfl
/-- The barrier is on level 1, -/
theorem lv_bar (c : Dev nD) (u : Unit) : lv (barCell c) u = 1 := if_pos rfl
/-- and arrivals are on level 2. -/
theorem lv_recv (c : Dev nD) (k : Fin 15) (u : Unit) : lv (recvCell c k) u = 2 := by
  dsimp only [lv]; rw [if_neg (recv_ne_bar k), recvIx_recv]; rfl

/-- Who owes arrivals owes them to arrival cells of the devices it sends to. -/
theorem oweR_pos {c : Dev nD} {g : GSem nD τ sig} {u : Unit} : ∀ {n : ℕ}, 0 < oweR c n g u → ∃ k, g = recvCell (up c k) k
  | 0, h => absurd h (Nat.lt_irrefl 0)
  | n + 1, h => by
    unfold oweR at h
    rw [Pi.add_apply, Finsupp.add_apply] at h
    rcases Nat.add_pos_iff_pos_or_pos.mp h with h | h
    · exact oweR_pos h
    · split at h
      · next hn =>
        rw [tallyAt_apply] at h
        split at h
        · next hg => exact ⟨_, hg.1⟩
        · exact absurd h (Nat.lt_irrefl 0)
      · exact absurd h (Nat.lt_irrefl 0)
/-- Who owes barrier units too owes those to barrier cells, and arrivals otherwise. -/
theorem oweB_pos {c : Dev nD} {g : GSem nD τ sig} {u : Unit} : ∀ {n : ℕ}, 0 < oweB c n g u →
    (∃ k, g = recvCell (up c k) k) ∨ ∃ k, g = barCell (dn c k)
  | 0, h => .inl (oweR_pos h)
  | n + 1, h => by
    unfold oweB at h
    rw [Pi.add_apply, Finsupp.add_apply] at h
    rcases Nat.add_pos_iff_pos_or_pos.mp h with h | h
    · exact oweB_pos h
    · split at h
      · next hn =>
        rw [tallyAt_apply] at h
        split at h
        · next hg => exact .inr ⟨_, hg.1⟩
        · exact absurd h (Nat.lt_irrefl 0)
      · exact absurd h (Nat.lt_irrefl 0)

/-- A device that owes arrivals only may wait on any of its cells below the arrivals' level. -/
theorem mayWait (c : Dev nD) (n : ℕ) (sm : SemLoc sig) (hsm : lv ((c : Thread nD τ), sm) () ≤ 1) :
    (levAts L lv : sProp 𝕄) ⊢ MayWait (c : Thread nD τ) sm () (oweR c n) :=
  MayOwe.of_cut (L := L) (lev := lv) 1 (fun p hp => by rw [Finset.mem_singleton.mp hp, L_tc]; exact Finset.mem_singleton_self _)
    (fun g u hg => by obtain ⟨k, rfl⟩ := oweR_pos hg; rw [L_tc]; exact Finset.mem_singleton_self _)
    (fun p hp => by rw [Finset.mem_singleton.mp hp]; exact hsm)
    (fun g u hg => by obtain ⟨k, rfl⟩ := oweR_pos hg; rw [lv_recv]; decide)

end Cert.KernelIdeal.Ring

end
-- ==== Proof.Contents.lean ====
/-
  What the kernel computes, chunk by chunk, as functions of what it loads.

  A chunk is 128 rows: its tokens `x` (in bf16) and its masked gate values `p` (one column per expert; a token's row is
  zero away from the expert it is routed to). `w` is the device's position, as a word; the device holds experts
  `4 w .. 4 w + 3`. `payload` is one group of four chunks: rows 32 j .. 32 j + 31 of it are the answers to the (at most 32)
  tokens of chunk `j` that this device's experts serve, in 1024 columns, and in 128 more columns the 0/1 matrix that says
  which token each row answers.
-/
module

public import proofs.«01_k».proof.Proof.Gen.KernelIdeal
public import proofs.«01_k».proof.Proof.Gen.KernelIdeal.Skeleton

@[expose] public section

noncomputable section

namespace Cert.KernelIdeal.Ring

open Idealize.ShloMosaic Idealize.SL.Sem
open Cert.KernelIdeal.Facts₀ Cert.KernelIdeal.Facts

variable {F : FTy → Type} [FloatOps F]

/-- The word a device computes its position as. -/
abbrev posWord (c : Dev nD) : BitVec 32 := Scalar.remsi (Scalar.divsi (Dev.word c) 1#32) 16#32

/-- The gate values of local expert `e`: column `4 w + e` of `p`. -/
def gate (w e : BitVec 32) (p : Vec F S128x64 .f32) : FVec F S128x1 .f32 :=
  shapeCast S128x1
    (multiReduction .add [1] S128
      (select (cmpi .eq (iota .tc S128x64 32 [1] iota_S128x64_d1_w32) (broadcast S128x64 (Scalar.addi (Scalar.muli w 4#32) e))) p
        (broadcast S128x64 (Scalar.ofBits .f32 0x00000000#32)))
      0x00000000#32 reduces_S128x64_S128 (.inl rfl) rfl)
    shapeCasts_S128_S128x1

/-- Which tokens are served here: those with a positive gate value on one of the four experts. -/
def served (w : BitVec 32) (p : Vec F S128x64 .f32) : IVec S128x1 1 :=
  cmpf .ogt (addf (addf (addf (gate w 0#32 p) (gate w 1#32 p)) (gate w 2#32 p)) (gate w 3#32 p))
    (broadcast S128x1 (Scalar.ofBits .f32 0x00000000#32))

/-- How many served tokens come before each token. -/
def before (w : BitVec 32) (p : Vec F S128x64 .f32) : FVec F S128x1 .f32 :=
  matmul dot_S128x128_S128x1_S128x1_1_0_0_1_n_n none Gen.k0_pay5
    (truncf .bf16 (sitofp .f32 (extui 32 (served w p) natLt_1_32)) bitsLt_bf16_f32) (constant S128x1 .f32 0x00000000#32)

/-- Token `t` takes row `s`: it is served, and `s` served tokens come before it. -/
def hit (w : BitVec 32) (p : Vec F S128x64 .f32) : IVec S128x32 1 :=
  andi
    (cmpi .eq (broadcastTo S128x32 (fptosi 32 (before w p)) broadcasts_S128x1_S128x32) (iota .tc S128x32 32 [1] iota_S128x32_d1_w32))
    (broadcastTo S128x32 (served w p) broadcasts_S128x1_S128x32)

/-- The gate value of expert `e` where a token takes a row, zero elsewhere. -/
def weight (w e : BitVec 32) (p : Vec F S128x64 .f32) : FVec F S128x32 .bf16 :=
  truncf .bf16
    (select (hit w p) (broadcastTo S128x32 (shapeCast S128x1 (gate w e p) shapeCasts_S128x1_S128x1) broadcasts_S128x1_S128x32)
      (broadcast S128x32 (Scalar.ofBits .f32 0x00000000#32)))
    bitsLt_bf16_f32

/-- The weighted tokens, expert by expert: row `32 e + s` is the token in row `s` times its gate value on expert `e`. -/
def weighted (w : BitVec 32) (x : Vec F S128x512 .bf16) (p : Vec F S128x64 .f32) : FVec F S128x512 .bf16 :=
  truncf .bf16
    (matmul dot_S128x128_S128x512_S128x512_0_0_1_1_n_n none
      (concatenate S128x128 1 [⟨S128x32, weight w 0#32 p⟩, ⟨S128x32, weight w 1#32 p⟩, ⟨S128x32, weight w 2#32 p⟩, ⟨S128x32, weight w 3#32 p⟩]
        concatenates_S128x32_S128x32_S128x32_S128x32_S128x128_d1)
      x (constant S128x512 .f32 0x00000000#32))
    bitsLt_bf16_f32

/-- The same, the four experts side by side. -/
def gathered (w : BitVec 32) (x : Vec F S128x512 .bf16) (p : Vec F S128x64 .f32) : FVec F S32x2048 .bf16 :=
  concatenate S32x2048 1
    [⟨S32x512, extractStridedSlice S32x512 ![0, 0] (weighted w x p) slices_S128x512_o0_0_S32x512⟩,
     ⟨S32x512, extractStridedSlice S32x512 ![32, 0] (weighted w x p) slices_S128x512_o32_0_S32x512⟩,
     ⟨S32x512, extractStridedSlice S32x512 ![64, 0] (weighted w x p) slices_S128x512_o64_0_S32x512⟩,
     ⟨S32x512, extractStridedSlice S32x512 ![96, 0] (weighted w x p) slices_S128x512_o96_0_S32x512⟩]
    concatenates_S32x512_S32x512_S32x512_S32x512_S32x2048_d1

/-- The 0/1 matrix that says which token each row answers. -/
def places (w : BitVec 32) (p : Vec F S128x64 .f32) : FVec F S32x128 .bf16 :=
  truncf .bf16
    (matmul dot_S128x32_S128x128_S32x128_0_0_1_1_n_n none
      (truncf .bf16 (sitofp .f32 (extui 32 (hit w p) natLt_1_32)) bitsLt_bf16_f32) Gen.k0_pay6 (constant S32x128 .f32 0x00000000#32))
    bitsLt_bf16_f32

/-- One chunk as loaded: its tokens and its masked gate values. -/
abbrev Chunk (F : FTy → Type) [FloatOps F] : Type := Vec F S128x512 .bf16 × Vec F S128x64 .f32

/-- One group of four chunks, answered by the experts' matrices `m`. -/
def payload (w : BitVec 32) (a b d e : Chunk F) (m : Vec F S2048x1024 .bf16) : FVec F S1x128x1152 .bf16 :=
  shapeCast S1x128x1152
    (concatenate S128x1152 1
      [⟨S128x1024, truncf .bf16
        (matmul dot_S128x2048_S2048x1024_S128x1024_1_0_0_1_n_n none
          (concatenate S128x2048 0
            [⟨S32x2048, gathered w a.1 a.2⟩, ⟨S32x2048, gathered w b.1 b.2⟩, ⟨S32x2048, gathered w d.1 d.2⟩, ⟨S32x2048, gathered w e.1 e.2⟩]
            concatenates_S32x2048_S32x2048_S32x2048_S32x2048_S128x2048_d0)
          m (constant S128x1024 .f32 0x00000000#32))
        bitsLt_bf16_f32⟩,
       ⟨S128x128, concatenate S128x128 0
          [⟨S32x128, places w a.2⟩, ⟨S32x128, places w b.2⟩, ⟨S32x128, places w d.2⟩, ⟨S32x128, places w e.2⟩]
          concatenates_S32x128_S32x128_S32x128_S32x128_S128x128_d0⟩]
      concatenates_S128x1024_S128x128_S128x1152_d1)
    shapeCasts_S128x1152_S1x128x1152

/-- One expert's matrix, cast. -/
def castExpert (v : Vec F S1x512x1024 .f32) : FVec F S512x1024 .bf16 :=
  shapeCast S512x1024 (truncf .bf16 (shapeCast S512x1024 v shapeCasts_S1x512x1024_S512x1024) bitsLt_bf16_f32) shapeCasts_S512x1024_S512x1024

/-- Four arrived blocks, put back at their tokens' rows. -/
def restored (v : Vec F S4x32x1152 .bf16) : FVec F S128x1024 .f32 :=
  let r : FVec F S128x1152 .bf16 := shapeCast S128x1152 v shapeCasts_S4x32x1152_S128x1152
  matmul dot_S128x128_S128x1024_S128x1024_0_0_1_1_n_n none
    (extractStridedSlice S128x128 ![0, 1024] r slices_S128x1152_o0_1024_S128x128)
    (extractStridedSlice S128x1024 ![0, 0] r slices_S128x1152_o0_0_S128x1024) (constant S128x1024 .f32 0x00000000#32)

end Cert.KernelIdeal.Ring

end
-- ==== Proof.Flow.lean ====
/-
  The kernel's body in pieces: the three local copies, the signals, the casts and the gate values, the four groups of
  chunks with their sends, the waits with the sums, and the copy out. `body_eq` says the printed body is this sequence.
-/
module

public import proofs.«01_k».proof.Proof.Schedule
public import proofs.«01_k».proof.Proof.Contents
public import proofs.«01_k».proof.Proof.Gen.KernelIdeal.Points

@[expose] public section

noncomputable section

namespace Cert.KernelIdeal.Ring

open Idealize.ShloMosaic Idealize.SL.Sem
open Cert.KernelIdeal.Facts₀ Cert.KernelIdeal.Facts

variable {F : FTy → Type} [FloatOps F]

/-- A piece of the body. -/
abbrev Code (F : FTy → Type) [FloatOps F] (α : Type) := Prog (TpuEff nD τ sig (Elt F) Λ₀ .tc) α

/-! ## Memrefs -/

abbrev xH : Memref sig .tc .hbm S2048x512 .f32 := Memref.whole main_arg0
abbrev ewH : Memref sig .tc .hbm S4x512x1024 .f32 := Memref.whole main_arg3
abbrev swH : Memref sig .tc .hbm S512x1024 .f32 := Memref.whole main_arg4
abbrev outH : Memref sig .tc .hbm S128x1024 .f32 := Memref.whole main_v8
abbrev rwM : Memref sig .tc .vmem S64x512 .f32 := Memref.whole cc0_stg0_0
abbrev ohM : Memref sig .tc .vmem S2048x64 .bf16 := Memref.whole cc0_stg1_0
abbrev xvM : Memref sig .tc .vmem S2048x512 .f32 := Memref.whole cc0_scratch0
abbrev xbM : Memref sig .tc .vmem S2048x512 .bf16 := Memref.whole cc0_scratch1
abbrev ewfM : Memref sig .tc .vmem S4x512x1024 .f32 := Memref.whole cc0_scratch2
abbrev ewbM : Memref sig .tc .vmem S2048x1024 .bf16 := Memref.whole cc0_scratch3
abbrev swfM : Memref sig .tc .vmem S512x1024 .f32 := Memref.whole cc0_scratch4
abbrev swbM : Memref sig .tc .vmem S512x1024 .bf16 := Memref.whole cc0_scratch5
abbrev mpM : Memref sig .tc .vmem S2048x64 .f32 := Memref.whole cc0_scratch6
abbrev ovM : Memref sig .tc .vmem S128x1024 .f32 := Memref.whole cc0_scratch7

/-- The semaphore of the `i`-th local copy. -/
abbrev copyS (i : Fin 3) : DmaSem sig := ⟨32 + i.val, by have := i.isLt; show 32 + i.val < 35; omega⟩

/-- The slots and the send slices are whole words. -/
theorem slot_words (k : Fin 15) : (Rect.unit (s := S15x32x1152) ![k.val, 0, 0] S1x32x1152.size (slot_inb k)).WholeWords (EltTy.packing .bf16) := by
  revert k; decide +kernel
/-- A slice is made of whole words. -/
theorem part_words (k : Fin 15) : (Rect.unit (s := S4x128x1152) ![(14 - k.val) / 4, 32 * ((14 - k.val) % 4), 0] S1x32x1152.size (part_inb k)).WholeWords (EltTy.packing .bf16) := by
  revert k; decide +kernel
/-- A copy into a slot writes exactly that slot, -/
theorem slot_exact (k : Fin 15) : (slotM k).view.WordExact := ((Memref.isWhole_whole cc0_scratch9).wordExact_slice rfl _ (slot_words k)).reshape _ _
/-- and a copy from a slice reads exactly that slice. -/
theorem part_exact (k : Fin 15) : (partM k).view.WordExact := ((Memref.isWhole_whole cc0_scratch8).wordExact_slice rfl _ (part_words k)).reshape _ _

/-! ## The pieces -/

/-- The three local copies in. -/
def starts : Code F PUnit := do
  Prog.lift (.enqueueDma xH (.here xvM) (.dma (copyS 0)) (Memref.isWhole_whole _).wordExact (Memref.isWhole_whole _).wordExact ⟨Or.inl rfl, trivial⟩)
  Prog.lift (.enqueueDma ewH (.here ewfM) (.dma (copyS 1)) (Memref.isWhole_whole _).wordExact (Memref.isWhole_whole _).wordExact ⟨Or.inl rfl, trivial⟩)
  Prog.lift (.enqueueDma swH (.here swfM) (.dma (copyS 2)) (Memref.isWhole_whole _).wordExact (Memref.isWhole_whole _).wordExact ⟨Or.inl rfl, trivial⟩)

/-- One barrier unit to each device of a list. -/
def signals : List (Dev nD) → Code F PUnit
  | [] => pure ⟨⟩
  | d :: l => do
    semSignalWord d barS 1#32
    signals l

/-- The devices signalled, in order. -/
def signalled (c : Dev nD) : List (Dev nD) :=
  [⟨k0_dev1 c, k0_dev1_lt c⟩, ⟨k0_dev2 c, k0_dev2_lt c⟩, ⟨k0_dev3 c, k0_dev3_lt c⟩, ⟨k0_dev4 c, k0_dev4_lt c⟩, ⟨k0_dev5 c, k0_dev5_lt c⟩,
   ⟨k0_dev6 c, k0_dev6_lt c⟩, ⟨k0_dev7 c, k0_dev7_lt c⟩, ⟨k0_dev8 c, k0_dev8_lt c⟩, ⟨k0_dev9 c, k0_dev9_lt c⟩, ⟨k0_dev10 c, k0_dev10_lt c⟩,
   ⟨k0_dev11 c, k0_dev11_lt c⟩, ⟨k0_dev12 c, k0_dev12_lt c⟩, ⟨k0_dev13 c, k0_dev13_lt c⟩, ⟨k0_dev14 c, k0_dev14_lt c⟩, ⟨k0_dev15 c, k0_dev15_lt c⟩]

/-- The tokens cast, and the masked gate values. -/
def gates : Code F PUnit := do
  Prog.lift (.waitDma2 (copyS 0) xH xvM (Memref.isWhole_whole _).wordExact (Memref.isWhole_whole _).wordExact)
  let v207 : Vec F S2048x512 .f32 ← Prog.lift (.load xvM (Rect.unit (s := S2048x512) ![0, 0] S2048x512.size inb_S2048x512_S2048x512_0_0).toLoadRect (View.loadsAt_vmem h_S2048x512))
  let _ : Vec F S2048x512 .bf16 ← Prog.lift (.load xbM (Rect.unit (s := S2048x512) ![0, 0] S2048x512.size inb_S2048x512_S2048x512_0_0).toLoadRect (View.loadsAt_vmem h_S2048x512))
  Prog.lift (.store xbM (Rect.unit (s := S2048x512) ![0, 0] S2048x512.size inb_S2048x512_S2048x512_0_0) (Gen.k0_pay2 v207) Finset.univ (View.stores_vmem h_S2048x512 ((Memref.isWhole_whole _).storeExact_slice rfl _ packedbf16_S2048x512_S2048x512_0_0) (fun _ => rfl)) (.inl rfl))
  let v212 : Vec F S2048x512 .f32 ← Prog.lift (.load xvM (Rect.unit (s := S2048x512) ![0, 0] S2048x512.size inb_S2048x512_S2048x512_0_0).toLoadRect (View.loadsAt_vmem h_S2048x512))
  let v213 : Vec F S64x512 .f32 ← Prog.lift (.load rwM (Rect.unit (s := S64x512) ![0, 0] S64x512.size inb_S64x512_S64x512_0_0).toLoadRect (View.loadsAt_vmem h_S64x512))
  let v225 : Vec F S2048x64 .bf16 ← Prog.lift (.load ohM (Rect.unit (s := S2048x64) ![0, 0] S2048x64.size inb_S2048x64_S2048x64_0_0).toLoadRect (View.loadsAt_vmem h_S2048x64))
  let _ : Vec F S2048x64 .f32 ← Prog.lift (.load mpM (Rect.unit (s := S2048x64) ![0, 0] S2048x64.size inb_S2048x64_S2048x64_0_0).toLoadRect (View.loadsAt_vmem h_S2048x64))
  Prog.lift (.store mpM (Rect.unit (s := S2048x64) ![0, 0] S2048x64.size inb_S2048x64_S2048x64_0_0) (Gen.k0_pay4 (Gen.k0_pay3 v212 v213 v225)) Finset.univ (View.stores_vmem_bits_univ h_S2048x64 rfl) (.inl rfl))

/-- Where a chunk lies: its rows among the tokens and among the gate values. -/
structure Rows where
  off : Fin 2 → ℕ
  off' : Fin 2 → ℕ
  inb : ∀ a, off a + S128x512.size a ≤ S2048x512.size a
  inb' : ∀ a, off' a + S128x64.size a ≤ S2048x64.size a
/-- The chunk of the device that slot `14 - i` of the exchange is for. -/
def rowsOf (c : Dev nD) (i : Fin 15) : Rows :=
  ⟨k0_off1 c (BitVec.ofNat 32 (1 + i.val)), k0_off2 c (BitVec.ofNat 32 (1 + i.val)), k0_off1_inb c i, k0_off2_inb c i⟩
/-- The device's own chunk. -/
def rowsOwn (c : Dev nD) : Rows := ⟨k0_off3 c, k0_off4 c, k0_off3_inb c, k0_off4_inb c⟩

/-- Load one chunk. -/
def chunk (r : Rows) : Code F (Chunk F) := do
  let x : Vec F S128x512 .bf16 ← Prog.lift (.load xbM (Rect.unit (s := S2048x512) r.off S128x512.size r.inb).toLoadRect (View.loadsAt_vmem h_S128x512))
  let p : Vec F S128x64 .f32 ← Prog.lift (.load mpM (Rect.unit (s := S2048x64) r.off' S128x64.size r.inb').toLoadRect (View.loadsAt_vmem h_S128x64))
  pure (x, p)

/-- An expert's matrix lies in the array of the device's experts; -/
theorem expert_inb (e : Fin 4) : ∀ a, (![e.val, 0, 0] : Fin 3 → ℕ) a + S1x512x1024.size a ≤ S4x512x1024.size a := by revert e; decide
/-- so do its rows in the stacked matrix, -/
theorem expert_inb' (e : Fin 4) : ∀ a, (![512 * e.val, 0] : Fin 2 → ℕ) a + S512x1024.size a ≤ S2048x1024.size a := by revert e; decide
/-- and they start on a word. -/
theorem expert_packed (e : Fin 4) : (Rect.unit (s := S2048x1024) ![512 * e.val, 0] S512x1024.size (expert_inb' e)).PackedRows (EltTy.packing .bf16) := by
  revert e; decide +kernel
/-- Cast expert `e`'s matrix into its rows. -/
def expert (e : Fin 4) : Code F PUnit := do
  let v : Vec F S1x512x1024 .f32 ← Prog.lift (.load ewfM (Rect.unit (s := S4x512x1024) ![e.val, 0, 0] S1x512x1024.size (expert_inb e)).toLoadRect (View.loadsAt_vmem h_S1x512x1024))
  let _ : Vec F S512x1024 .bf16 ← Prog.lift (.load ewbM (Rect.unit (s := S2048x1024) ![512 * e.val, 0] S512x1024.size (expert_inb' e)).toLoadRect (View.loadsAt_vmem h_S512x1024))
  Prog.lift (.store ewbM (Rect.unit (s := S2048x1024) ![512 * e.val, 0] S512x1024.size (expert_inb' e)) (castExpert v) Finset.univ (View.stores_vmem h_S512x1024 ((Memref.isWhole_whole _).storeExact_slice rfl _ (expert_packed e)) (fun _ => rfl)) (.inl rfl))
/-- Wait for the experts' matrices and cast them. -/
def experts : Code F PUnit := do
  Prog.lift (.waitDma2 (copyS 1) ewH ewfM (Memref.isWhole_whole _).wordExact (Memref.isWhole_whole _).wordExact)
  expert 0
  expert 1
  expert 2
  expert 3

/-- A group's rows lie in the send buffer, -/
theorem group_inb (g : Fin 4) : ∀ a, (![g.val, 0, 0] : Fin 3 → ℕ) a + S1x128x1152.size a ≤ S4x128x1152.size a := by revert g; decide
/-- and start on a word. -/
theorem group_packed (g : Fin 4) : (Rect.unit (s := S4x128x1152) ![g.val, 0, 0] S1x128x1152.size (group_inb g)).PackedRows (EltTy.packing .bf16) := by
  revert g; decide +kernel
/-- Answer a group of four chunks and store the answers in the send buffer. -/
def answer (w : BitVec 32) (g : Fin 4) (a b d e : Chunk F) : Code F PUnit := do
  let m : Vec F S2048x1024 .bf16 ← Prog.lift (.load ewbM (Rect.unit (s := S2048x1024) ![0, 0] S2048x1024.size inb_S2048x1024_S2048x1024_0_0).toLoadRect (View.loadsAt_vmem h_S2048x1024))
  let _ : Vec F S1x128x1152 .bf16 ← Prog.lift (.load sbM (Rect.unit (s := S4x128x1152) ![g.val, 0, 0] S1x128x1152.size (group_inb g)).toLoadRect (View.loadsAt_vmem h_S1x128x1152))
  Prog.lift (.store sbM (Rect.unit (s := S4x128x1152) ![g.val, 0, 0] S1x128x1152.size (group_inb g)) (payload w a b d e m) Finset.univ (View.stores_vmem h_S1x128x1152 ((Memref.isWhole_whole _).storeExact_slice rfl _ (group_packed g)) (fun _ => rfl)) (.inl rfl))

/-- Send the slices of a list, each to the device beside it. -/
def sends : List (Fin 15 × Dev nD) → Code F PUnit
  | [] => pure ⟨⟩
  | (k, d) :: l => do
    Prog.lift (.enqueueDma (partM k) (.remote (Dev.tc d) (slotM k) (.dma (sendS k))) (.dma (recvS k)) (part_exact k) (slot_exact k) ⟨⟨rfl, Or.inl rfl⟩, trivial⟩)
    sends l

/-- The slices sent after each group, and to whom. -/
def sent (c : Dev nD) : Fin 4 → List (Fin 15 × Dev nD)
  | 0 => [(14, ⟨k0_dev16 c, k0_dev16_lt c⟩), (13, ⟨k0_dev17 c, k0_dev17_lt c⟩), (12, ⟨k0_dev18 c, k0_dev18_lt c⟩), (11, ⟨k0_dev19 c, k0_dev19_lt c⟩)]
  | 1 => [(10, ⟨k0_dev20 c, k0_dev20_lt c⟩), (9, ⟨k0_dev21 c, k0_dev21_lt c⟩), (8, ⟨k0_dev22 c, k0_dev22_lt c⟩), (7, ⟨k0_dev23 c, k0_dev23_lt c⟩)]
  | 2 => [(6, ⟨k0_dev24 c, k0_dev24_lt c⟩), (5, ⟨k0_dev25 c, k0_dev25_lt c⟩), (4, ⟨k0_dev26 c, k0_dev26_lt c⟩), (3, ⟨k0_dev27 c, k0_dev27_lt c⟩)]
  | 3 => [(2, ⟨k0_dev28 c, k0_dev28_lt c⟩), (1, ⟨k0_dev29 c, k0_dev29_lt c⟩), (0, ⟨k0_dev30 c, k0_dev30_lt c⟩)]

/-- Wait for the shared matrix, cast it, and multiply the device's own tokens by it. -/
def shared (c : Dev nD) : Code F (FVec F S128x1024 .f32) := do
  Prog.lift (.waitDma2 (copyS 2) swH swfM (Memref.isWhole_whole _).wordExact (Memref.isWhole_whole _).wordExact)
  let v2162 : Vec F S512x1024 .f32 ← Prog.lift (.load swfM (Rect.unit (s := S512x1024) ![0, 0] S512x1024.size inb_S512x1024_S512x1024_0_0).toLoadRect (View.loadsAt_vmem h_S512x1024))
  let _ : Vec F S512x1024 .bf16 ← Prog.lift (.load swbM (Rect.unit (s := S512x1024) ![0, 0] S512x1024.size inb_S512x1024_S512x1024_0_0).toLoadRect (View.loadsAt_vmem h_S512x1024))
  Prog.lift (.store swbM (Rect.unit (s := S512x1024) ![0, 0] S512x1024.size inb_S512x1024_S512x1024_0_0) (Gen.k0_pay164 v2162) Finset.univ (View.stores_vmem h_S512x1024 ((Memref.isWhole_whole _).storeExact_slice rfl _ packedbf16_S512x1024_S512x1024_0_0) (fun _ => rfl)) (.inl rfl))
  let v2169 : Vec F S128x512 .bf16 ← Prog.lift (.load xbM (Rect.unit (s := S2048x512) (k0_off3 c) S128x512.size (k0_off3_inb c)).toLoadRect (View.loadsAt_vmem h_S128x512))
  let v2170 : Vec F S512x1024 .bf16 ← Prog.lift (.load swbM (Rect.unit (s := S512x1024) ![0, 0] S512x1024.size inb_S512x1024_S512x1024_0_0).toLoadRect (View.loadsAt_vmem h_S512x1024))
  pure (Gen.k0_pay165 v2169 v2170 (constant S128x1024 .f32 0x00000000#32))

/-- Wait for the departures and the arrivals of a list of slots. -/
def waits : List (Fin 15) → Code F PUnit
  | [] => pure ⟨⟩
  | k :: l => do
    Prog.lift (.waitDma2 (sendS k) (slotM k) (partM k) (slot_exact k) (part_exact k))
    Prog.lift (.waitDma2 (recvS k) (partM k) (slotM k) (part_exact k) (slot_exact k))
    waits l

/-- Four slots in a row lie in the receive buffer. -/
theorem four_inb (k : Fin 12) : ∀ a, (![k.val, 0, 0] : Fin 3 → ℕ) a + S4x32x1152.size a ≤ S15x32x1152.size a := by revert k; decide
/-- Load four arrived blocks, the first in slot `k`. -/
def four (k : Fin 12) : Code F (Vec F S4x32x1152 .bf16) :=
  Prog.lift (.load rbM (Rect.unit (s := S15x32x1152) ![k.val, 0, 0] S4x32x1152.size (four_inb k)).toLoadRect (View.loadsAt_vmem h_S4x32x1152))

/-- The last three arrived blocks and the device's own, the sum stored, and the copy out. -/
def finish (tot : FVec F S128x1024 .f32) : Code F PUnit := do
  let v2400 : Vec F S3x32x1152 .bf16 ← Prog.lift (.load rbM (Rect.unit (s := S15x32x1152) ![0, 0, 0] S3x32x1152.size inb_S15x32x1152_S3x32x1152_0_0_0).toLoadRect (View.loadsAt_vmem h_S3x32x1152))
  let v2402 : Vec F S1x32x1152 .bf16 ← Prog.lift (.load sbM (Rect.unit (s := S4x128x1152) ![3, 96, 0] S1x32x1152.size inb_S4x128x1152_S1x32x1152_3_96_0).toLoadRect (View.loadsAt_vmem h_S1x32x1152))
  let _ : Vec F S128x1024 .f32 ← Prog.lift (.load ovM (Rect.unit (s := S128x1024) ![0, 0] S128x1024.size inb_S128x1024_S128x1024_0_0).toLoadRect (View.loadsAt_vmem h_S128x1024))
  Prog.lift (.store ovM (Rect.unit (s := S128x1024) ![0, 0] S128x1024.size inb_S128x1024_S128x1024_0_0) (Gen.k0_pay1 tot v2400 v2402) Finset.univ (View.stores_vmem_bits_univ h_S128x1024 rfl) (.inl rfl))
  Prog.lift (.enqueueDma ovM (.here outH) (.dma (copyS 0)) (Memref.isWhole_whole _).wordExact (Memref.isWhole_whole _).wordExact ⟨Or.inl rfl, trivial⟩)
  Prog.lift (.waitDma2 (copyS 0) ovM outH (Memref.isWhole_whole _).wordExact (Memref.isWhole_whole _).wordExact)

/-- The body of device `c`. -/
def flow (c : Dev nD) : Code F PUnit := do
  starts
  signals (signalled c)
  gates
  semWaitWord barS 15#32
  let a0 ← chunk (rowsOf c 0)
  let a1 ← chunk (rowsOf c 1)
  let a2 ← chunk (rowsOf c 2)
  let a3 ← chunk (rowsOf c 3)
  experts
  answer (posWord c) 0 a0 a1 a2 a3
  sends (sent c 0)
  let a4 ← chunk (rowsOf c 4)
  let a5 ← chunk (rowsOf c 5)
  let a6 ← chunk (rowsOf c 6)
  let a7 ← chunk (rowsOf c 7)
  answer (posWord c) 1 a4 a5 a6 a7
  sends (sent c 1)
  let a8 ← chunk (rowsOf c 8)
  let a9 ← chunk (rowsOf c 9)
  let a10 ← chunk (rowsOf c 10)
  let a11 ← chunk (rowsOf c 11)
  answer (posWord c) 2 a8 a9 a10 a11
  sends (sent c 2)
  let a12 ← chunk (rowsOf c 12)
  let a13 ← chunk (rowsOf c 13)
  let a14 ← chunk (rowsOf c 14)
  let a15 ← chunk (rowsOwn c)
  answer (posWord c) 3 a12 a13 a14 a15
  sends (sent c 3)
  let t0 ← shared c
  waits [14, 13, 12, 11]
  let r0 ← four 11
  waits [10, 9, 8, 7]
  let r1 ← four 7
  waits [6, 5, 4, 3]
  let r2 ← four 3
  waits [2, 1, 0]
  finish (addf (addf (addf t0 (restored r0)) (restored r1)) (restored r2))

set_option maxRecDepth 100000 in
/-- The printed body is the device's number, then `flow`. -/
theorem body_eq : Gen.bodyAt0 (F := F) Gen.t0_0 = (do let c : Dev nD ← Prog.lift .deviceId; flow c) := rfl

end Cert.KernelIdeal.Ring

end
-- ==== Proof.Buffers.lean ====
/-
  What each buffer of a device holds once it is written, and which elements the slots and the slices are.

  `Args` is what a device starts from. The send buffer is ordered by its 16 slices: slice `q = 4 g + j` is rows
  `32 j .. 32 j + 31` of group `g`; slices 0 .. 14 go out (slice `q` to slot `14 - q`), slice 15 stays. `sbRange lo hi` is the
  elements of the slices from `lo` to `hi - 1`, `rbFrom n` those of the slots from `n` on.
-/
module

public import proofs.«01_k».proof.Proof.Flow
public import Idealize.ShloMosaic.Lib.Pointwise.Index
public import Idealize.ShloMosaic.Lib.Pointwise.Reshape

@[expose] public section

noncomputable section

namespace Cert.KernelIdeal.Ring

open Idealize.ShloMosaic Idealize.ShloMosaic.TcCoe Idealize.SL.Sem
open Cert.KernelIdeal.Facts₀ Cert.KernelIdeal.Facts

variable {F : FTy → Type} [FloatOps F]

/-! ## Contents -/

/-- What a device's body starts from: the tokens, the router's matrix transposed, the routes as a 0/1 matrix, the
    device's four experts, and the shared matrix. -/
structure Args (F : FTy → Type) [FloatOps F] where
  x : Vec F S2048x512 .f32
  rw : Vec F S64x512 .f32
  oh : Vec F S2048x64 .bf16
  ew : Vec F S4x512x1024 .f32
  sw : Vec F S512x1024 .f32

/-- The tokens cast. -/
def xbOf (a : Args F) : Vec F S2048x512 .bf16 := Gen.k0_pay2 a.x
/-- The masked gate values. -/
def mpOf (a : Args F) : Vec F S2048x64 .f32 := Gen.k0_pay4 (Gen.k0_pay3 a.x a.rw a.oh)
/-- One expert's matrix as loaded. -/
def expertOf (a : Args F) (e : Fin 4) : Vec F S1x512x1024 .f32 := fun j => a.ew (ix3 e (j 1) (j 2))
/-- The experts' matrices cast, one above the other. -/
def ewbOf (a : Args F) : Vec F S2048x1024 .bf16 := fun i =>
  castExpert (expertOf a ⟨(i 0).val / 512, by have : (i 0).val < 2048 := (i 0).isLt; omega⟩)
    (ix2 ⟨(i 0).val % 512, by omega⟩ (i 1))
/-- The shared matrix cast. -/
def swbOf (a : Args F) : Vec F S512x1024 .bf16 := Gen.k0_pay164 a.sw

/-- The rows of the `n`-th chunk a device answers: the other devices' in the order they are sent, then its own. -/
def rowsAt (c : Dev nD) (n : Fin 16) : Rows := if h : n.val < 15 then rowsOf c ⟨n.val, h⟩ else rowsOwn c
/-- A chunk of a device's tokens and gate values. -/
def chunkOf (a : Args F) (r : Rows) : Chunk F :=
  (fun j => xbOf a ((Rect.unit (s := S2048x512) r.off S128x512.size r.inb).emb j),
   fun j => mpOf a ((Rect.unit (s := S2048x64) r.off' S128x64.size r.inb').emb j))
/-- A group of four chunks answered. -/
def groupOf (c : Dev nD) (a : Args F) (g : Fin 4) : FVec F S1x128x1152 .bf16 :=
  payload (posWord c) (chunkOf a (rowsAt c ⟨4 * g.val, by omega⟩)) (chunkOf a (rowsAt c ⟨4 * g.val + 1, by omega⟩))
    (chunkOf a (rowsAt c ⟨4 * g.val + 2, by omega⟩)) (chunkOf a (rowsAt c ⟨4 * g.val + 3, by omega⟩)) (ewbOf a)
/-- The send buffer of device `c`. -/
def sbOf (c : Dev nD) (a : Args F) : Vec F S4x128x1152 .bf16 := fun i => groupOf c a (i 0) (ix3 0 (i 1) (i 2))

variable (A : Dev nD → Args F)

/-- The send buffers, device by device. -/
abbrev SBof (c : Dev nD) : Vec F S4x128x1152 .bf16 := sbOf c (A c)
/-- The receive buffers: slot `k` holds the slice of device `dn c k` that goes to slot `k`. -/
def RBof (c : Dev nD) : Vec F S15x32x1152 .bf16 := fun i =>
  SBof A (dn c (i 0)) (ix3 ⟨(14 - (i 0).val) / 4, by omega⟩
    ⟨32 * ((14 - (i 0).val) % 4) + (i 1).val, by have : (i 1).val < 32 := (i 1).isLt; omega⟩ (i 2))

/-- Four arrived blocks, the first in slot `k`. -/
def fourOf (c : Dev nD) (k : Fin 12) : Vec F S4x32x1152 .bf16 :=
  fun j => RBof A c ((Rect.unit (s := S15x32x1152) ![k.val, 0, 0] S4x32x1152.size (four_inb k)).emb j)
/-- The first three arrived blocks. -/
def threeOf (c : Dev nD) : Vec F S3x32x1152 .bf16 :=
  fun j => RBof A c ((Rect.unit (s := S15x32x1152) ![0, 0, 0] S3x32x1152.size inb_S15x32x1152_S3x32x1152_0_0_0).emb j)
/-- The device's answers to its own chunk. -/
def ownOf (c : Dev nD) : Vec F S1x32x1152 .bf16 :=
  fun j => SBof A c ((Rect.unit (s := S4x128x1152) ![3, 96, 0] S1x32x1152.size inb_S4x128x1152_S1x32x1152_3_96_0).emb j)
/-- The device's own tokens times the shared matrix. -/
def sharedOf (c : Dev nD) : FVec F S128x1024 .f32 :=
  Gen.k0_pay165 (chunkOf (A c) (rowsOwn c)).1 (swbOf (A c)) (constant S128x1024 .f32 0x00000000#32)
/-- The sums after the first twelve arrived blocks. -/
def totOf (c : Dev nD) : FVec F S128x1024 .f32 :=
  addf (addf (addf (sharedOf A c) (restored (fourOf A c 11))) (restored (fourOf A c 7))) (restored (fourOf A c 3))
/-- What a device leaves in its output. -/
def resOf (c : Dev nD) : FVec F S128x1024 .f32 := Gen.k0_pay1 (totOf A c) (threeOf A c) (ownOf A c)

/-! ## Element sets -/

/-- The elements of the send buffer's slices from `lo` to `hi - 1`. -/
def sbRange (lo hi : ℕ) : Finset S4x128x1152.Idx := Finset.univ.filter fun i => lo ≤ 4 * (i 0).val + (i 1).val / 32 ∧ 4 * (i 0).val + (i 1).val / 32 < hi
/-- The elements of the receive buffer's slots from `n` on. -/
def rbFrom (n : ℕ) : Finset S15x32x1152.Idx := Finset.univ.filter fun i => n ≤ (i 0).val

/-- When an element of the send buffer is in a range of slices, -/
theorem mem_sbRange {lo hi : ℕ} {i : S4x128x1152.Idx} : i ∈ sbRange lo hi ↔ lo ≤ 4 * (i 0).val + (i 1).val / 32 ∧ 4 * (i 0).val + (i 1).val / 32 < hi := by
  unfold sbRange; rw [Finset.mem_filter]; exact ⟨fun h => h.2, fun h => ⟨Finset.mem_univ _, h⟩⟩
/-- and when one of the receive buffer is in the slots from `n` on. -/
theorem mem_rbFrom {n : ℕ} {i : S15x32x1152.Idx} : i ∈ rbFrom n ↔ n ≤ (i 0).val := by
  unfold rbFrom; rw [Finset.mem_filter]; exact ⟨fun h => h.2, fun h => ⟨Finset.mem_univ _, h⟩⟩

/-- The whole send buffer is its sixteen slices. -/
theorem sbRange_all : sbRange 0 16 = Finset.univ := by
  ext i; rw [mem_sbRange]
  have h0 : (i 0).val < 4 := (i 0).isLt
  have h1 : (i 1).val < 128 := (i 1).isLt
  exact ⟨fun _ => Finset.mem_univ _, fun _ => ⟨by omega, by omega⟩⟩
/-- A range of slices is two ranges put together, -/
theorem sbRange_union {lo mid hi : ℕ} (h : lo ≤ mid) (h' : mid ≤ hi) : sbRange lo hi = sbRange lo mid ∪ sbRange mid hi := by
  ext i; rw [Finset.mem_union, mem_sbRange, mem_sbRange, mem_sbRange]; omega
/-- which share no element; -/
theorem sbRange_disjoint (lo mid hi : ℕ) : Disjoint (sbRange lo mid) (sbRange mid hi) :=
  Finset.disjoint_left.mpr fun i h h' => by rw [mem_sbRange] at h h'; omega
/-- an empty range has none. -/
theorem sbRange_empty (n : ℕ) : sbRange n n = ∅ := by
  ext i; rw [mem_sbRange]; exact ⟨fun h => by omega, fun h => absurd h (Finset.notMem_empty _)⟩

/-- The receive buffer from slot 0 on is the whole; from slot 15 on it is nothing. -/
theorem rbFrom_all : rbFrom 0 = Finset.univ := by
  ext i; rw [mem_rbFrom]; exact ⟨fun _ => Finset.mem_univ _, fun _ => Nat.zero_le _⟩
/-- There is no slot from 15 on. -/
theorem rbFrom_none : rbFrom 15 = ∅ := by
  ext i; rw [mem_rbFrom]
  have h0 : (i 0).val < 15 := (i 0).isLt
  exact ⟨fun h => by omega, fun h => absurd h (Finset.notMem_empty _)⟩

/-- Slot `k`'s elements. -/
abbrev slotSet (k : Fin 15) : Finset S15x32x1152.Idx := (slotM k).view.set
/-- They are those of its number. -/
theorem mem_slot {k : Fin 15} {i : S15x32x1152.Idx} : i ∈ slotSet k ↔ (i 0).val = k.val := by
  rw [show slotSet k = (Rect.unit (s := S15x32x1152) ![k.val, 0, 0] S1x32x1152.size (slot_inb k)).set from
    (View.set_reshape _ _).trans (View.set_slice_whole _ _), Rect.mem_set_unit]
  refine ⟨fun h => ?_, fun h a => ?_⟩
  · have h0 : k.val ≤ (i 0).val ∧ (i 0).val < k.val + 1 := h 0
    omega
  · have h1 : (i 1).val < 32 := (i 1).isLt
    have h2 : (i 2).val < 1152 := (i 2).isLt
    match a with
    | ⟨0, _⟩ => show k.val ≤ (i 0).val ∧ (i 0).val < k.val + 1; omega
    | ⟨1, _⟩ => show 0 ≤ (i 1).val ∧ (i 1).val < 0 + 32; omega
    | ⟨2, _⟩ => show 0 ≤ (i 2).val ∧ (i 2).val < 0 + 1152; omega
/-- A slot shares nothing with the later ones, -/
theorem slot_disjoint (k : Fin 15) : Disjoint (slotSet k) (rbFrom (k.val + 1)) :=
  Finset.disjoint_left.mpr fun (i : S15x32x1152.Idx) h h' => by rw [mem_slot] at h; rw [mem_rbFrom] at h'; omega
/-- and with them makes up the slots from it on. -/
theorem slot_union (k : Fin 15) : rbFrom k.val = slotSet k ∪ rbFrom (k.val + 1) := by
  ext i; rw [Finset.mem_union, mem_rbFrom, mem_slot, mem_rbFrom]; omega
/-- Two slots share nothing, -/
theorem slots_disjoint {k k' : Fin 15} (h : k ≠ k') : Disjoint (slotSet k) (slotSet k') :=
  Finset.disjoint_left.mpr fun i h₁ h₂ => by
    rw [mem_slot] at h₁ h₂; exact h (Fin.ext (h₁.symm.trans h₂))
/-- and all slots make up the buffer. -/
theorem slots_all : (Finset.univ : Finset (Fin 15)).biUnion slotSet = Finset.univ := by
  ext i
  refine ⟨fun _ => Finset.mem_univ _, fun _ => Finset.mem_biUnion.mpr ⟨(⟨(i 0).val, (i 0).isLt⟩ : Fin 15), Finset.mem_univ _, mem_slot.mpr rfl⟩⟩

/-- Send slice `k`'s elements. -/
theorem part_set (k : Fin 15) : (partM k).view.set = sbRange (14 - k.val) (15 - k.val) := by
  ext i
  rw [show (partM k).view.set = (Rect.unit (s := S4x128x1152) ![(14 - k.val) / 4, 32 * ((14 - k.val) % 4), 0] S1x32x1152.size (part_inb k)).set from
    (View.set_reshape _ _).trans (View.set_slice_whole _ _), Rect.mem_set_unit, mem_sbRange]
  have hk := k.isLt
  refine ⟨fun h => ?_, fun h a => ?_⟩
  · have h0 : (14 - k.val) / 4 ≤ (i 0).val ∧ (i 0).val < (14 - k.val) / 4 + 1 := h 0
    have h1 : 32 * ((14 - k.val) % 4) ≤ (i 1).val ∧ (i 1).val < 32 * ((14 - k.val) % 4) + 32 := h 1
    omega
  · have h1 : (i 1).val < 128 := (i 1).isLt
    have h2 : (i 2).val < 1152 := (i 2).isLt
    match a with
    | ⟨0, _⟩ => show (14 - k.val) / 4 ≤ (i 0).val ∧ (i 0).val < (14 - k.val) / 4 + 1; omega
    | ⟨1, _⟩ => show 32 * ((14 - k.val) % 4) ≤ (i 1).val ∧ (i 1).val < 32 * ((14 - k.val) % 4) + 32; omega
    | ⟨2, _⟩ => show 0 ≤ (i 2).val ∧ (i 2).val < 0 + 1152; omega

/-- A group's elements: four slices. -/
theorem group_set (g : Fin 4) : (Rect.unit (s := S4x128x1152) ![g.val, 0, 0] S1x128x1152.size (group_inb g)).set = sbRange (4 * g.val) (4 * g.val + 4) := by
  ext i
  rw [Rect.mem_set_unit, mem_sbRange]
  have h1 : (i 1).val < 128 := (i 1).isLt
  refine ⟨fun h => ?_, fun h a => ?_⟩
  · have h0 : g.val ≤ (i 0).val ∧ (i 0).val < g.val + 1 := h 0
    omega
  · have h2 : (i 2).val < 1152 := (i 2).isLt
    match a with
    | ⟨0, _⟩ => show g.val ≤ (i 0).val ∧ (i 0).val < g.val + 1; omega
    | ⟨1, _⟩ => show 0 ≤ (i 1).val ∧ (i 1).val < 0 + 128; omega
    | ⟨2, _⟩ => show 0 ≤ (i 2).val ∧ (i 2).val < 0 + 1152; omega
/-- The own slice's elements: the last slice. -/
theorem own_set : (Rect.unit (s := S4x128x1152) ![3, 96, 0] S1x32x1152.size inb_S4x128x1152_S1x32x1152_3_96_0).set = sbRange 15 16 := by
  ext i
  rw [Rect.mem_set_unit, mem_sbRange]
  have h0 : (i 0).val < 4 := (i 0).isLt
  have h1 : (i 1).val < 128 := (i 1).isLt
  refine ⟨fun h => ?_, fun h a => ?_⟩
  · have h0 : 3 ≤ (i 0).val ∧ (i 0).val < 3 + 1 := h 0
    have h1 : 96 ≤ (i 1).val ∧ (i 1).val < 96 + 32 := h 1
    omega
  · have h2 : (i 2).val < 1152 := (i 2).isLt
    match a with
    | ⟨0, _⟩ => show 3 ≤ (i 0).val ∧ (i 0).val < 3 + 1; omega
    | ⟨1, _⟩ => show 96 ≤ (i 1).val ∧ (i 1).val < 96 + 32; omega
    | ⟨2, _⟩ => show 0 ≤ (i 2).val ∧ (i 2).val < 0 + 1152; omega
/-- Four slots read lie from the first on. -/
theorem four_subset (k : Fin 12) : (Rect.unit (s := S15x32x1152) ![k.val, 0, 0] S4x32x1152.size (four_inb k)).set ⊆ rbFrom k.val := fun i h => by
  rw [Rect.mem_set_unit] at h; exact mem_rbFrom.mpr (h 0).1

/-! ## Writing what a buffer is to hold -/

section Agree
variable {sig' : RefSig} {κ : Kind} {sp : Space} {s : Shape} {e : EltTy} {Val : EltTy → Type}

/-- Writing a view's part of `G` leaves `G` on the view. -/
theorem write_read_eq (v : View sig' κ sp s e) (f G : v.ty.Contents Val) (w : s.Idx → Val e) (hw : w = v.read Val G) :
    ∀ i ∈ v.set, v.write Val f w Finset.univ i = G i := by
  subst hw
  intro i hi
  rw [show v.write Val f (v.read Val G) Finset.univ = (v.setOn Finset.univ).piecewise G f from View.write_read_eq_piecewise ..]
  exact Finset.piecewise_eq_of_mem _ _ _ hi
/-- And leaves everything off the view. -/
theorem write_off (v : View sig' κ sp s e) (f : v.ty.Contents Val) (w : s.Idx → Val e) :
    ∀ i, i ∉ v.set → v.write Val f w Finset.univ i = f i :=
  fun i hi => View.write_of_not_mem f w Finset.univ hi
end Agree

/-! ## Where the views lie; what is sent is what is to arrive -/

theorem squeeze_idx (x : S32x1152.Idx) :
    Shape.reshapeEquiv Facts₀.squeezes_S1x32x1152_S32x1152.numel_eq x = (ix3 0 (x 0) (x 1) : S1x32x1152.Idx) := by
  simp only [reshapeIdx]

/-- Where an element of a slot lies in the receive buffer, -/
theorem slot_emb (k : Fin 15) (x : S32x1152.Idx) : (slotM k).view.emb x = (ix3 k (x 0) (x 1) : S15x32x1152.Idx) := by
  show (Rect.unit (s := S15x32x1152) ![k.val, 0, 0] S1x32x1152.size (slot_inb k)).emb (Shape.reshapeEquiv Facts₀.squeezes_S1x32x1152_S32x1152.numel_eq x) = _
  rw [squeeze_idx]
  funext a
  match a with
  | ⟨0, _⟩ => exact Fin.ext (by show k.val + 1 * 0 = k.val; omega)
  | ⟨1, _⟩ => exact Fin.ext (by show 0 + 1 * (x 0).val = (x 0).val; omega)
  | ⟨2, _⟩ => exact Fin.ext (by show 0 + 1 * (x 1).val = (x 1).val; omega)

/-- and where one of a slice lies in the send buffer. -/
theorem part_emb (k : Fin 15) (x : S32x1152.Idx) : (partM k).view.emb x
    = (ix3 ⟨(14 - k.val) / 4, by omega⟩ ⟨32 * ((14 - k.val) % 4) + (x 0).val, by have : (x 0).val < 32 := (x 0).isLt; omega⟩ (x 1) : S4x128x1152.Idx) := by
  show (Rect.unit (s := S4x128x1152) ![(14 - k.val) / 4, 32 * ((14 - k.val) % 4), 0] S1x32x1152.size (part_inb k)).emb
    (Shape.reshapeEquiv Facts₀.squeezes_S1x32x1152_S32x1152.numel_eq x) = _
  rw [squeeze_idx]
  funext a
  match a with
  | ⟨0, _⟩ => exact Fin.ext (by show (14 - k.val) / 4 + 1 * 0 = (14 - k.val) / 4; omega)
  | ⟨1, _⟩ => exact Fin.ext (by show 32 * ((14 - k.val) % 4) + 1 * (x 0).val = 32 * ((14 - k.val) % 4) + (x 0).val; omega)
  | ⟨2, _⟩ => exact Fin.ext (by show 0 + 1 * (x 1).val = (x 1).val; omega)

/-- What device `c` sends to slot `k` of `up c k` is what that slot is to hold. -/
theorem sent_eq (c : Dev nD) (k : Fin 15) :
    (partM k).view.read (Elt F) (SBof A c) = (slotM k).view.read (Elt F) (RBof A (up c k)) := by
  funext x
  show SBof A c ((partM k).view.emb x) = RBof A (up c k) ((slotM k).view.emb x)
  rw [part_emb, slot_emb]
  show _ = SBof A (dn (up c k) k) _
  rw [dn_up]
  rfl

/-- A slot written with what is sent to it holds what it is to hold. -/
theorem slot_written (c : Dev nD) (k : Fin 15) (f : (cc0_scratch9 : Ref sig .tc).ty.Contents (Elt F)) :
    ∀ i ∈ (slotM k).view.set, (slotM k).view.write (Elt F) f ((partM k).view.read (Elt F) (SBof A c)) Finset.univ i = RBof A (up c k) i :=
  write_read_eq (Val := Elt F) (slotM k).view f (RBof A (up c k)) _ (sent_eq A c k)

/-- A group stored is the group the send buffer is to hold. -/
theorem group_written (c : Dev nD) (g : Fin 4) (f : (cc0_scratch8 : Ref sig .tc).ty.Contents (Elt F)) :
    ∀ i ∈ sbRange (4 * g.val) (4 * g.val + 4),
      (sbM.access (Rect.unit (s := S4x128x1152) ![g.val, 0, 0] S1x128x1152.size (group_inb g))).write (Elt F) f (groupOf c (A c) g) Finset.univ i = SBof A c i := by
  have h := write_read_eq (Val := Elt F) (sbM.access (Rect.unit (s := S4x128x1152) ![g.val, 0, 0] S1x128x1152.size (group_inb g))) f (SBof A c) (groupOf c (A c) g) (by
    funext x
    show groupOf c (A c) g x = SBof A c ((Rect.unit (s := S4x128x1152) ![g.val, 0, 0] S1x128x1152.size (group_inb g)).emb x)
    rw [show (Rect.unit (s := S4x128x1152) ![g.val, 0, 0] S1x128x1152.size (group_inb g)).emb x = (ix3 g (x 1) (x 2) : S4x128x1152.Idx) from ?_]
    · show groupOf c (A c) g x = groupOf c (A c) g (ix3 0 (x 1) (x 2))
      congr 1
      funext a
      match a with
      | ⟨0, _⟩ => exact Fin.ext (by have : (x 0).val < 1 := (x 0).isLt; show (x 0).val = 0; omega)
      | ⟨1, _⟩ => rfl
      | ⟨2, _⟩ => rfl
    · funext a
      match a with
      | ⟨0, _⟩ => exact Fin.ext (by have : (x 0).val < 1 := (x 0).isLt; show g.val + 1 * (x 0).val = g.val; omega)
      | ⟨1, _⟩ => exact Fin.ext (by show 0 + 1 * (x 1).val = (x 1).val; omega)
      | ⟨2, _⟩ => exact Fin.ext (by show 0 + 1 * (x 2).val = (x 2).val; omega))
  intro i hi
  exact h i (by rw [show (sbM.access (Rect.unit (s := S4x128x1152) ![g.val, 0, 0] S1x128x1152.size (group_inb g))).set = _ from View.set_slice_whole _ _, group_set]; exact hi)

/-- The experts stored one by one are the cast experts' matrices. -/
def ewbUpTo (n : ℕ) (a : Args F) (f : Vec F S2048x1024 .bf16) : Prop := ∀ i : S2048x1024.Idx, (i 0).val < 512 * n → f i = ewbOf a i

/-- Writing expert `e` into the stacked matrix, the earlier ones being there, leaves one more there. -/
theorem expert_written (a : Args F) (e : Fin 4) (f : (cc0_scratch3 : Ref sig .tc).ty.Contents (Elt F)) (hf : ewbUpTo e.val a f) :
    ewbUpTo (e.val + 1) a ((ewbM.access (Rect.unit (s := S2048x1024) ![512 * e.val, 0] S512x1024.size (expert_inb' e))).write (Elt F) f (castExpert (expertOf a e)) Finset.univ) := by
  have hx : ∀ x : S512x1024.Idx, (Rect.unit (s := S2048x1024) ![512 * e.val, 0] S512x1024.size (expert_inb' e)).emb x
      = (ix2 ⟨512 * e.val + (x 0).val, by have : (x 0).val < 512 := (x 0).isLt; omega⟩ (x 1) : S2048x1024.Idx) := fun x => by
    funext a
    match a with
    | ⟨0, _⟩ => exact Fin.ext (by show 512 * e.val + 1 * (x 0).val = 512 * e.val + (x 0).val; omega)
    | ⟨1, _⟩ => exact Fin.ext (by show 0 + 1 * (x 1).val = (x 1).val; omega)
  have h := write_read_eq (Val := Elt F) (ewbM.access (Rect.unit (s := S2048x1024) ![512 * e.val, 0] S512x1024.size (expert_inb' e))) f (ewbOf a) (castExpert (expertOf a e)) (by
    funext x
    show castExpert (expertOf a e) x = ewbOf a ((Rect.unit (s := S2048x1024) ![512 * e.val, 0] S512x1024.size (expert_inb' e)).emb x)
    rw [hx]
    have h0 : (x 0).val < 512 := (x 0).isLt
    show _ = castExpert (expertOf a ⟨(512 * e.val + (x 0).val) / 512, _⟩) (ix2 ⟨(512 * e.val + (x 0).val) % 512, _⟩ (x 1))
    rw [show (⟨(512 * e.val + (x 0).val) / 512, by omega⟩ : Fin 4) = e from Fin.ext (by show (512 * e.val + (x 0).val) / 512 = e.val; omega),
      show (⟨(512 * e.val + (x 0).val) % 512, by omega⟩ : Fin 512) = x 0 from Fin.ext (by show (512 * e.val + (x 0).val) % 512 = (x 0).val; omega)]
    exact congrArg _ (eq_ix2 x))
  intro i hi
  have hset : ∀ i : S2048x1024.Idx, i ∈ (ewbM.access (Rect.unit (s := S2048x1024) ![512 * e.val, 0] S512x1024.size (expert_inb' e))).set
      ↔ 512 * e.val ≤ (i 0).val ∧ (i 0).val < 512 * e.val + 512 := fun i => by
    rw [show (ewbM.access (Rect.unit (s := S2048x1024) ![512 * e.val, 0] S512x1024.size (expert_inb' e))).set = _ from View.set_slice_whole _ _, Rect.mem_set_unit]
    refine ⟨fun h => h 0, fun h a => ?_⟩
    match a with
    | ⟨0, _⟩ => exact h
    | ⟨1, _⟩ => exact ⟨Nat.zero_le _, (by have : (i 1).val < 1024 := (i 1).isLt; show (i 1).val < 0 + 1024; omega)⟩
  by_cases hm : i ∈ (ewbM.access (Rect.unit (s := S2048x1024) ![512 * e.val, 0] S512x1024.size (expert_inb' e))).set
  · exact h i hm
  · refine (write_off (Val := Elt F) (ewbM.access (Rect.unit (s := S2048x1024) ![512 * e.val, 0] S512x1024.size (expert_inb' e))) f _ i hm).trans ?_
    rw [hset] at hm
    exact hf i (by omega)

/-- One expert's matrix loaded. -/
theorem expert_read (a : Args F) (e : Fin 4) :
    ewfM.view.readAt (Elt F) (Rect.unit (s := S4x512x1024) ![e.val, 0, 0] S1x512x1024.size (expert_inb e)).toLoadRect a.ew = expertOf a e := by
  funext x
  show a.ew ((Rect.unit (s := S4x512x1024) ![e.val, 0, 0] S1x512x1024.size (expert_inb e)).emb x) = a.ew (ix3 e (x 1) (x 2))
  congr 1
  funext b
  match b with
  | ⟨0, _⟩ => exact Fin.ext (by have : (x 0).val < 1 := (x 0).isLt; show e.val + 1 * (x 0).val = e.val; omega)
  | ⟨1, _⟩ => exact Fin.ext (by show 0 + 1 * (x 1).val = (x 1).val; omega)
  | ⟨2, _⟩ => exact Fin.ext (by show 0 + 1 * (x 2).val = (x 2).val; omega)

end Cert.KernelIdeal.Ring

end
-- ==== Proof.Local.lean ====
/-
  The pieces of the body that stay on one device: the three copies in, the casts and the gate values, the loads of a
  chunk, the answers to a group, the product with the shared matrix, and the copy out. Each is proved from the buffers it
  uses, whatever is to follow.
-/
module

public import proofs.«01_k».proof.Proof.Buffers

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Facts₀ Cert.KernelIdeal.Facts

variable {F : FTy → Type} [FloatOps F]

local notation "𝕄" => MT nD τ sig Unit (Elt F) ℕ UU ℕ

abbrev 𝒱₀ : Variants := Variants.none
/-- The local copies' counters inside the machine's algebra. -/
abbrev EC : UEmb Counters (MT nD τ sig Unit (Elt F) ℕ UU ℕ) := countersEmb

/-- A piece run on device `c`. -/
abbrev run {α : Type} (c : Dev nD) (p : Code F α) (K : α → sProp 𝕄) : sProp 𝕄 :=
  wp frame (wpE (defs₀ (F := F)) 𝒱₀ (c : Thread nD τ) none) Set.univ p K

/-- Buffer `b` of device `c`, whole, at contents `f`. -/
abbrev buf (c : Dev nD) (b : Ref sig .tc) (f : b.ty.Contents (Elt F)) : sProp 𝕄 := ((c : Thread nD τ).loc b) ↦[Finset.univ]{fullShare} f
/-- What device `c` owes, whatever it has waited for. -/
def owing (c : Dev nD) (O : CellTallies nD τ sig Unit) : sProp 𝕄 := iprop(∃ W, owes (c : Thread nD τ) O W)
/-- The semaphore of a local copy, at zero. -/
abbrev copyIdle (c : Dev nD) (i : Fin 3) : sProp 𝕄 := semVal ((c : Thread nD τ), .dma (copyS i)) 0
/-- A copy in the air from buffer `b`, at contents `f`, to a buffer of the same type. -/
abbrev flying (c : Dev nD) (i : Fin 3) (n : ℕ) (D : sProp 𝕄) : sProp 𝕄 := Transfers.Flight (EC (F := F)) (c : Thread nD τ) (.dma (copyS i)) () n D

variable (c : Dev nD)

/-! ## Loads, stores and local copies, with what is read and what is left named -/

section Steps

/-- A program that returns. -/
theorem run_ret {α : Type} {K : α → sProp 𝕄} (x : α) : K x ⊢ run c (.ret x) K := by
  show K x ⊢ wp _ _ _ _ _; rw [wp_ret]
  iintro H; imodintro; iexact H

/-- One piece, then the rest. -/
theorem run_seq {α β : Type} {K : β → sProp 𝕄} (p : Code F α) (k : α → Code F β) : run c p (fun a => run c (k a) K) ⊢ run c (p >>= k) K := by
  show wp _ _ _ _ _ ⊢ wp _ _ _ _ _; rw [wp_bind]

/-- A load gives what the buffer holds. -/
theorem run_load {α : Type} {K : α → sProp 𝕄} {cs : CoreSpace} {s : Shape} {e : EltTy} {m : Memref sig .tc cs s e} {r : LoadRect s} {hl : m.view.LoadsAt r} {k : (r.shape.Idx → Elt F e) → Code F α}
    {S : Finset (Idx (m.view.loc (c : Thread nD τ)))} {q : PosShare TreeShare} {f : Buf (Elt F) (m.view.loc (c : Thread nD τ))} (v : r.shape.Idx → Elt F e)
    (hv : m.view.readAt (Elt F) r f = v) (hS : m.view.setOn r.set ⊆ S) :
    (m.view.loc (c : Thread nD τ) ↦[S]{q} f)
      ⊢ iprop(((m.view.loc (c : Thread nD τ) ↦[S]{q} f) -∗ run c (k v) K) -∗ run c (.op (.load m r hl) k) K) := by
  subst hv; exact wp_load 𝒱₀ (c : Thread nD τ) none Set.univ hS

/-- A store changes what the buffer holds. -/
theorem run_store {α : Type} {K : α → sProp 𝕄} {cs : CoreSpace} {s : Shape} {e : EltTy} {m : Memref sig .tc cs s e} {r : Rect s} {w : r.shape.Idx → Elt F e} {hx : (m.access r).Stores Finset.univ}
    {hm : (Finset.univ : Finset r.shape.Idx) = Finset.univ ∨ ∀ a, r.stride a = 1} {k : PUnit → Code F α}
    {S : Finset (Idx ((m.access r).loc (c : Thread nD τ)))} {f : Buf (Elt F) ((m.access r).loc (c : Thread nD τ))} (g : Buf (Elt F) ((m.access r).loc (c : Thread nD τ)))
    (hS : (m.access r).setOn Finset.univ ⊆ S) (hg : ∀ i ∈ S, (m.access r).write (Elt F) f w Finset.univ i = g i) :
    ((m.access r).loc (c : Thread nD τ) ↦[S]{fullShare} f)
      ⊢ iprop((((m.access r).loc (c : Thread nD τ) ↦[S]{fullShare} g) -∗ run c (k ⟨⟩) K) -∗ run c (.op (.store m r w Finset.univ hx hm) k) K) := by
  rw [← pointsTo_congr hg]; exact wp_store 𝒱₀ (c : Thread nD τ) none Set.univ hS

/-- A local copy takes source and destination until it has landed. -/
theorem run_copy {α : Type} {K : α → sProp 𝕄} {sp sp' : Space} {s : Shape} {e : EltTy} {src : Memref sig .tc sp s e} {dst : Memref sig .tc sp' s e} {i : Fin 3}
    {hsrc : src.view.WordExact} {hdst : dst.view.WordExact} {hsem : DmaTarget.Typed (nD := nD) (τ := τ) (p := .tc) sp (.dma (copyS i)) (.here dst)}
    {k : PUnit → Code F α} {fs : Buf (Elt F) (src.view.loc (c : Thread nD τ))} {fd : Buf (Elt F) (dst.view.loc (c : Thread nD τ))} (g : Buf (Elt F) (dst.view.loc (c : Thread nD τ)))
    (hs : src.view.set = Finset.univ) (hd : dst.view.set = Finset.univ) (h0 : 0 < dst.view.dmaCredit)
    (hg : dst.view.write (Elt F) fd (src.view.read (Elt F) fs) Finset.univ = g) :
    iprop((src.view.loc (c : Thread nD τ) ↦[Finset.univ]{fullShare} fs) ∗ (dst.view.loc (c : Thread nD τ) ↦[Finset.univ]{fullShare} fd) ∗ copyIdle c i)
      ⊢ iprop((flying c i dst.view.dmaCredit iprop((dst.view.loc (c : Thread nD τ) ↦[Finset.univ]{fullShare} g) ∗ (src.view.loc (c : Thread nD τ) ↦[Finset.univ]{fullShare} fs)) -∗ run c (k ⟨⟩) K)
        -∗ run c (.op (.enqueueDma src (.here dst) (.dma (copyS i)) hsrc hdst hsem) k) K) := by
  subst hg
  have h := Transfers.wp_dmaLocal (Q := K) (defs := defs₀ (F := F)) (EC (F := F)) 𝒱₀ (c : Thread nD τ) none (src := src) (via := .same) (dst := dst) (sm := .dma (copyS i)) (hsrc := hsrc) (hdst := hdst) (hsem := hsem) (k := k) (q := fullShare) (fs := fs)
    (Sd := Finset.univ) (fd := fd) () dst.view.dmaCredit rfl h0 (Finset.subset_univ _)
  rw [hs] at h
  exact h

/-- Waiting for a local copy gives them back. -/
theorem run_landed {α : Type} {K : α → sProp 𝕄} {sp sp' : Space} {s s' : Shape} {e e' : EltTy} {src : Memref sig .tc sp' s' e'} {dst : Memref sig .tc sp s e} {i : Fin 3}
    {hsrc : src.view.WordExact} {hdst : dst.view.WordExact} {k : PUnit → Code F α} {n : ℕ} (hn : dst.view.dmaCredit = n) {D : sProp 𝕄} {O : CellTallies nD τ sig Unit} :
    iprop(flying c i n D ∗ owing c O ∗ MayWait (c : Thread nD τ) (.dma (copyS i)) () O)
      ⊢ iprop((iprop(D ∗ copyIdle c i ∗ owing c O) -∗ run c (k ⟨⟩) K) -∗ run c (.op (.waitDma2 (copyS i) src dst hsrc hdst) k) K) := by
  unfold owing
  iintro ⟨HF, ⟨%W, HO⟩, HM⟩ Hk
  iapply (Transfers.wp_waitLocalO (EC (F := F)) 𝒱₀ (c : Thread nD τ) none () hn (O := O) (W := W)) $$ [HF HO HM]
  · isplitl [HF]; · iexact HF
    isplitl [HO]; · iexact HO
    iexact HM
  iintro ⟨HD, HI, HO⟩
  iapply Hk
  isplitl [HD]; · iexact HD
  isplitl [HI]; · iexact HI
  iexists _; iexact HO

end Steps

/-! ## The copies in -/

theorem starts_run (a : Args F) (K : PUnit → sProp 𝕄) :
    iprop(buf c main_arg0 a.x ∗ buf c main_arg3 a.ew ∗ buf c main_arg4 a.sw ∗ (∃ f, buf c cc0_scratch0 f) ∗ (∃ f, buf c cc0_scratch2 f) ∗ (∃ f, buf c cc0_scratch4 f)
        ∗ copyIdle c 0 ∗ copyIdle c 1 ∗ copyIdle c 2
        ∗ ((flying c 0 xvM.view.dmaCredit iprop(buf c cc0_scratch0 a.x ∗ buf c main_arg0 a.x)
            ∗ flying c 1 ewfM.view.dmaCredit iprop(buf c cc0_scratch2 a.ew ∗ buf c main_arg3 a.ew)
            ∗ flying c 2 swfM.view.dmaCredit iprop(buf c cc0_scratch4 a.sw ∗ buf c main_arg4 a.sw)) -∗ K ⟨⟩))
      ⊢ run c (starts (F := F)) K := by
  unfold starts
  iintro ⟨Hx, He, Hs, ⟨%f0, Hxv⟩, ⟨%f1, Hev⟩, ⟨%f2, Hsv⟩, I0, I1, I2, Hk⟩
  iapply (run_copy c (src := xH) (dst := xvM) (i := 0) (fs := a.x) (fd := f0) a.x (View.set_whole _) (View.set_whole _) (View.dmaCredit_pos _ (by decide)) (View.write_whole_univ _ _ _)) $$ [Hx Hxv I0]
  · isplitl [Hx]; · iexact Hx
    isplitl [Hxv]; · iexact Hxv
    iexact I0
  iintro H0
  iapply (run_copy c (src := ewH) (dst := ewfM) (i := 1) (fs := a.ew) (fd := f1) a.ew (View.set_whole _) (View.set_whole _) (View.dmaCredit_pos _ (by decide)) (View.write_whole_univ _ _ _)) $$ [He Hev I1]
  · isplitl [He]; · iexact He
    isplitl [Hev]; · iexact Hev
    iexact I1
  iintro H1
  iapply (run_copy c (src := swH) (dst := swfM) (i := 2) (fs := a.sw) (fd := f2) a.sw (View.set_whole _) (View.set_whole _) (View.dmaCredit_pos _ (by decide)) (View.write_whole_univ _ _ _)) $$ [Hs Hsv I2]
  · isplitl [Hs]; · iexact Hs
    isplitl [Hsv]; · iexact Hsv
    iexact I2
  iintro H2
  iapply (run_ret c)
  iapply Hk
  isplitl [H0]; · iexact H0
  isplitl [H1]; · iexact H1
  iexact H2

/-! ## The casts and the gate values -/

theorem zero2 : (![0, 0] : Fin 2 → ℕ) = fun _ => 0 := by funext a; match a with | ⟨0, _⟩ => rfl | ⟨1, _⟩ => rfl

/-- The tokens arrive, and their casts and gates are left in scratch. -/
theorem gates_run (a : Args F) (K : PUnit → sProp 𝕄) (O : CellTallies nD τ sig Unit) :
    iprop(flying c 0 xvM.view.dmaCredit iprop(buf c cc0_scratch0 a.x ∗ buf c main_arg0 a.x) ∗ owing c O ∗ MayWait (c : Thread nD τ) (.dma (copyS 0)) () O
        ∗ buf c cc0_stg0_0 a.rw ∗ buf c cc0_stg1_0 a.oh ∗ (∃ f, buf c cc0_scratch1 f) ∗ (∃ f, buf c cc0_scratch6 f)
        ∗ ((buf c cc0_scratch0 a.x ∗ buf c main_arg0 a.x ∗ copyIdle c 0 ∗ owing c O ∗ buf c cc0_stg0_0 a.rw ∗ buf c cc0_stg1_0 a.oh
            ∗ buf c cc0_scratch1 (xbOf a) ∗ buf c cc0_scratch6 (mpOf a)) -∗ K ⟨⟩))
      ⊢ run c (gates (F := F)) K := by
  unfold gates
  iintro ⟨HF, HO, HM, Hrw, Hoh, ⟨%f1, Hxb⟩, ⟨%f6, Hmp⟩, Hk⟩
  iapply (run_landed c (i := 0) (n := xvM.view.dmaCredit) rfl) $$ [HF HO HM]
  · isplitl [HF]; · iexact HF
    isplitl [HO]; · iexact HO
    iexact HM
  iintro ⟨⟨Hxv, Hx⟩, HI, HO⟩
  iapply (run_load c (m := xvM) (f := a.x) (S := Finset.univ) a.x (Memref.readAt_unit_zero _ _ zero2 _ _) (Finset.subset_univ _)) $$ Hxv
  iintro Hxv
  iapply (run_load c (m := xbM) (f := f1) (S := Finset.univ) f1 (Memref.readAt_unit_zero _ _ zero2 _ _) (Finset.subset_univ _)) $$ Hxb
  iintro Hxb
  iapply (run_store c (m := xbM) (r := Rect.unit (s := S2048x512) ![0, 0] S2048x512.size inb_S2048x512_S2048x512_0_0) (f := f1) (S := Finset.univ) (xbOf a) (Finset.subset_univ _) (fun i _ => congrFun (Memref.write_access_unit_zero_univ _ _ zero2 _ _ _) i)) $$ Hxb
  iintro Hxb
  iapply (run_load c (m := xvM) (f := a.x) (S := Finset.univ) a.x (Memref.readAt_unit_zero _ _ zero2 _ _) (Finset.subset_univ _)) $$ Hxv
  iintro Hxv
  iapply (run_load c (m := rwM) (f := a.rw) (S := Finset.univ) a.rw (Memref.readAt_unit_zero _ _ zero2 _ _) (Finset.subset_univ _)) $$ Hrw
  iintro Hrw
  iapply (run_load c (m := ohM) (f := a.oh) (S := Finset.univ) a.oh (Memref.readAt_unit_zero _ _ zero2 _ _) (Finset.subset_univ _)) $$ Hoh
  iintro Hoh
  iapply (run_load c (m := mpM) (f := f6) (S := Finset.univ) f6 (Memref.readAt_unit_zero _ _ zero2 _ _) (Finset.subset_univ _)) $$ Hmp
  iintro Hmp
  iapply (run_store c (m := mpM) (r := Rect.unit (s := S2048x64) ![0, 0] S2048x64.size inb_S2048x64_S2048x64_0_0) (f := f6) (S := Finset.univ) (mpOf a) (Finset.subset_univ _) (fun i _ => congrFun (Memref.write_access_unit_zero_univ _ _ zero2 _ _ _) i)) $$ Hmp
  iintro Hmp
  iapply (run_ret c)
  iapply Hk
  isplitl [Hxv]; · iexact Hxv
  isplitl [Hx]; · iexact Hx
  isplitl [HI]; · iexact HI
  isplitl [HO]; · iexact HO
  isplitl [Hrw]; · iexact Hrw
  isplitl [Hoh]; · iexact Hoh
  isplitl [Hxb]; · iexact Hxb
  iexact Hmp

/-! ## A chunk, the experts, a group's answers -/

theorem chunk_run (a : Args F) (r : Rows) (K : Chunk F → sProp 𝕄) :
    iprop(buf c cc0_scratch1 (xbOf a) ∗ buf c cc0_scratch6 (mpOf a)
        ∗ ((buf c cc0_scratch1 (xbOf a) ∗ buf c cc0_scratch6 (mpOf a)) -∗ K (chunkOf a r)))
      ⊢ run c (chunk (F := F) r) K := by
  unfold chunk
  iintro ⟨Hxb, Hmp, Hk⟩
  iapply (run_load c (m := xbM) (f := xbOf a) (S := Finset.univ) (chunkOf a r).1 rfl (Finset.subset_univ _)) $$ Hxb
  iintro Hxb
  iapply (run_load c (m := mpM) (f := mpOf a) (S := Finset.univ) (chunkOf a r).2 rfl (Finset.subset_univ _)) $$ Hmp
  iintro Hmp
  iapply (run_ret c)
  iapply Hk
  isplitl [Hxb]; · iexact Hxb
  iexact Hmp

/-- One expert's matrix is cast into the stacked matrix, -/
theorem expert_run (a : Args F) (e : Fin 4) (K : PUnit → sProp 𝕄) :
    iprop(buf c cc0_scratch2 a.ew ∗ (∃ f, ⌜ewbUpTo e.val a f⌝ ∗ buf c cc0_scratch3 f)
        ∗ ((buf c cc0_scratch2 a.ew ∗ (∃ f, ⌜ewbUpTo (e.val + 1) a f⌝ ∗ buf c cc0_scratch3 f)) -∗ K ⟨⟩))
      ⊢ run c (expert (F := F) e) K := by
  unfold expert
  iintro ⟨Hew, ⟨%f, %hf, Hb⟩, Hk⟩
  iapply (run_load c (m := ewfM) (f := a.ew) (S := Finset.univ) (expertOf a e) (expert_read a e) (Finset.subset_univ _)) $$ Hew
  iintro Hew
  iapply (run_load c (m := ewbM) (f := f) (S := Finset.univ) _ rfl (Finset.subset_univ _)) $$ Hb
  iintro Hb
  iapply (run_store c (m := ewbM) (r := Rect.unit (s := S2048x1024) ![512 * e.val, 0] S512x1024.size (expert_inb' e)) (f := f) (S := Finset.univ) _ (Finset.subset_univ _) (fun i _ => rfl)) $$ Hb
  iintro Hb
  iapply (run_ret c)
  iapply Hk
  isplitl [Hew]; · iexact Hew
  iexists _
  isplitr; · ipureintro; exact expert_written a e f hf
  iexact Hb

/-- and all four are, once they have arrived. -/
theorem experts_run (a : Args F) (K : PUnit → sProp 𝕄) (O : CellTallies nD τ sig Unit) :
    iprop(flying c 1 ewfM.view.dmaCredit iprop(buf c cc0_scratch2 a.ew ∗ buf c main_arg3 a.ew) ∗ owing c O ∗ MayWait (c : Thread nD τ) (.dma (copyS 1)) () O
        ∗ (∃ f, buf c cc0_scratch3 f)
        ∗ ((buf c cc0_scratch2 a.ew ∗ buf c main_arg3 a.ew ∗ copyIdle c 1 ∗ owing c O ∗ buf c cc0_scratch3 (ewbOf a)) -∗ K ⟨⟩))
      ⊢ run c (experts (F := F)) K := by
  unfold experts
  iintro ⟨HF, HO, HM, ⟨%f, Hb⟩, Hk⟩
  iapply (run_landed c (i := 1) (n := ewfM.view.dmaCredit) rfl) $$ [HF HO HM]
  · isplitl [HF]; · iexact HF
    isplitl [HO]; · iexact HO
    iexact HM
  iintro ⟨⟨Hew, He⟩, HI, HO⟩
  iapply (run_seq c (expert 0))
  iapply (expert_run c a 0)
  isplitl [Hew]; · iexact Hew
  isplitl [Hb]
  · iexists f
    isplitr; · ipureintro; exact fun i hi => absurd hi (by omega)
    iexact Hb
  iintro ⟨Hew, Hb⟩
  iapply (run_seq c (expert 1))
  iapply (expert_run c a 1)
  isplitl [Hew]; · iexact Hew
  isplitl [Hb]; · iexact Hb
  iintro ⟨Hew, Hb⟩
  iapply (run_seq c (expert 2))
  iapply (expert_run c a 2)
  isplitl [Hew]; · iexact Hew
  isplitl [Hb]; · iexact Hb
  iintro ⟨Hew, Hb⟩
  iapply (expert_run c a 3)
  isplitl [Hew]; · iexact Hew
  isplitl [Hb]; · iexact Hb
  iintro ⟨Hew, ⟨%g, %hg, Hb⟩⟩
  have hg' : g = ewbOf a := funext fun i => hg i (i 0).isLt
  subst hg'
  iapply Hk
  isplitl [Hew]; · iexact Hew
  isplitl [He]; · iexact He
  isplitl [HI]; · iexact HI
  isplitl [HO]; · iexact HO
  iexact Hb

/-- The elements read through a rectangle of a whole buffer. -/
theorem load_subset {κ : Kind} {b : Ref sig κ} {r : Rect b.ty.shape} {S : Finset b.ty.Idx} (h : r.set ⊆ S) :
    (Memref.whole b).view.setOn r.toLoadRect.set ⊆ S :=
  by
  rw [show (Memref.whole b).view.setOn r.toLoadRect.set = ((Memref.whole b).access r).set from (View.set_slice _ _).symm,
    show ((Memref.whole b).access r).set = _ from View.set_slice_whole _ _]; exact h
/-- The elements written through one. -/
theorem store_subset {κ : Kind} {b : Ref sig κ} {r : Rect b.ty.shape} {S : Finset b.ty.Idx} (h : r.set ⊆ S) :
    ((Memref.whole b).access r).setOn Finset.univ ⊆ S := by
  rw [View.setOn_univ, show ((Memref.whole b).access r).set = _ from View.set_slice_whole _ _]; exact h

/-- The send buffer of device `c` on a range of slices. -/
abbrev sbPts (c : Dev nD) (lo hi : ℕ) (f : (cc0_scratch8 : Ref sig .tc).ty.Contents (Elt F)) : sProp 𝕄 :=
  ((c : Thread nD τ).loc cc0_scratch8) ↦[sbRange lo hi]{fullShare} f
/-- Two ranges side by side are one. -/
theorem sb_join {lo mid hi : ℕ} (h : lo ≤ mid) (h' : mid ≤ hi) (f : (cc0_scratch8 : Ref sig .tc).ty.Contents (Elt F)) :
    sbPts c lo hi f ⊣⊢ iprop(sbPts c lo mid f ∗ sbPts c mid hi f) := by
  unfold sbPts; rw [sbRange_union h h']; exact pointsTo_union (sbRange_disjoint lo mid hi)

/-- A group's answers and marks are put into its part of the send buffer. -/
theorem answer_run (A : Dev nD → Args F) (g : Fin 4) (K : PUnit → sProp 𝕄) :
    iprop(buf c cc0_scratch3 (ewbOf (A c)) ∗ (∃ f, sbPts c (4 * g.val) 16 f)
        ∗ ((buf c cc0_scratch3 (ewbOf (A c)) ∗ sbPts c (4 * g.val) (4 * g.val + 4) (SBof A c) ∗ (∃ f, sbPts c (4 * g.val + 4) 16 f)) -∗ K ⟨⟩))
      ⊢ run c (answer (F := F) (posWord c) g (chunkOf (A c) (rowsAt c ⟨4 * g.val, by omega⟩)) (chunkOf (A c) (rowsAt c ⟨4 * g.val + 1, by omega⟩))
    (chunkOf (A c) (rowsAt c ⟨4 * g.val + 2, by omega⟩)) (chunkOf (A c) (rowsAt c ⟨4 * g.val + 3, by omega⟩))) K := by
  unfold answer
  have hsub : (Rect.unit (s := S4x128x1152) ![g.val, 0, 0] S1x128x1152.size (group_inb g)).set ⊆ sbRange (4 * g.val) (4 * g.val + 4) := by rw [group_set]
  have h16 : 4 * g.val + 4 ≤ 16 := by omega
  iintro ⟨Hm, ⟨%f, Hs⟩, Hk⟩
  ihave ⟨Hs, Hr⟩ := (sb_join c (Nat.le_add_right _ 4) h16 f).1 $$ Hs
  iapply (run_load c (m := ewbM) (f := ewbOf (A c)) (S := Finset.univ) (ewbOf (A c)) (Memref.readAt_unit_zero _ _ zero2 _ _) (Finset.subset_univ _)) $$ Hm
  iintro Hm
  iapply (run_load c (m := sbM) (f := f) (S := sbRange (4 * g.val) (4 * g.val + 4)) _ rfl (load_subset hsub)) $$ Hs
  iintro Hs
  iapply (run_store c (m := sbM) (r := Rect.unit (s := S4x128x1152) ![g.val, 0, 0] S1x128x1152.size (group_inb g)) (f := f)
    (S := sbRange (4 * g.val) (4 * g.val + 4)) (SBof A c) (store_subset hsub) (group_written A c g f)) $$ Hs
  iintro Hs
  iapply (run_ret c)
  iapply Hk
  isplitl [Hm]; · iexact Hm
  isplitl [Hs]; · iexact Hs
  iexists f; iexact Hr

/-! ## The shared product, the arrived blocks, the end -/

theorem shared_run (A : Dev nD → Args F) (K : FVec F S128x1024 .f32 → sProp 𝕄) (O : CellTallies nD τ sig Unit) :
    iprop(flying c 2 swfM.view.dmaCredit iprop(buf c cc0_scratch4 (A c).sw ∗ buf c main_arg4 (A c).sw) ∗ owing c O ∗ MayWait (c : Thread nD τ) (.dma (copyS 2)) () O
        ∗ (∃ f, buf c cc0_scratch5 f) ∗ buf c cc0_scratch1 (xbOf (A c))
        ∗ ((buf c cc0_scratch4 (A c).sw ∗ buf c main_arg4 (A c).sw ∗ copyIdle c 2 ∗ owing c O ∗ buf c cc0_scratch5 (swbOf (A c)) ∗ buf c cc0_scratch1 (xbOf (A c)))
          -∗ K (sharedOf A c)))
      ⊢ run c (shared (F := F) c) K := by
  unfold shared sharedOf
  iintro ⟨HF, HO, HM, ⟨%f5, Hsb⟩, Hxb, Hk⟩
  iapply (run_landed c (i := 2) (n := swfM.view.dmaCredit) rfl) $$ [HF HO HM]
  · isplitl [HF]; · iexact HF
    isplitl [HO]; · iexact HO
    iexact HM
  iintro ⟨⟨Hsf, Hs⟩, HI, HO⟩
  iapply (run_load c (m := swfM) (f := (A c).sw) (S := Finset.univ) (A c).sw (Memref.readAt_unit_zero _ _ zero2 _ _) (Finset.subset_univ _)) $$ Hsf
  iintro Hsf
  iapply (run_load c (m := swbM) (f := f5) (S := Finset.univ) f5 (Memref.readAt_unit_zero _ _ zero2 _ _) (Finset.subset_univ _)) $$ Hsb
  iintro Hsb
  iapply (run_store c (m := swbM) (r := Rect.unit (s := S512x1024) ![0, 0] S512x1024.size inb_S512x1024_S512x1024_0_0) (f := f5) (S := Finset.univ) (swbOf (A c))
    (Finset.subset_univ _) (fun i _ => congrFun (Memref.write_access_unit_zero_univ _ _ zero2 _ _ _) i)) $$ Hsb
  iintro Hsb
  iapply (run_load c (m := xbM) (f := xbOf (A c)) (S := Finset.univ) (chunkOf (A c) (rowsOwn c)).1 rfl (Finset.subset_univ _)) $$ Hxb
  iintro Hxb
  iapply (run_load c (m := swbM) (f := swbOf (A c)) (S := Finset.univ) (swbOf (A c)) (Memref.readAt_unit_zero _ _ zero2 _ _) (Finset.subset_univ _)) $$ Hsb
  iintro Hsb
  iapply (run_ret c)
  iapply Hk
  isplitl [Hsf]; · iexact Hsf
  isplitl [Hs]; · iexact Hs
  isplitl [HI]; · iexact HI
  isplitl [HO]; · iexact HO
  isplitl [Hsb]; · iexact Hsb
  iexact Hxb

/-- The receive buffer of device `c` from slot `n` on. -/
abbrev rbPts (c : Dev nD) (n : ℕ) (f : (cc0_scratch9 : Ref sig .tc).ty.Contents (Elt F)) : sProp 𝕄 :=
  ((c : Thread nD τ).loc cc0_scratch9) ↦[rbFrom n]{fullShare} f

/-- Four arrived slots are read. -/
theorem four_run (A : Dev nD → Args F) (k : Fin 12) (K : Vec F S4x32x1152 .bf16 → sProp 𝕄) :
    iprop(rbPts c k.val (RBof A c) ∗ (rbPts c k.val (RBof A c) -∗ K (fourOf A c k))) ⊢ run c (four (F := F) k) K := by
  unfold four
  iintro ⟨Hr, Hk⟩
  iapply (run_load c (m := rbM) (f := RBof A c) (S := rbFrom k.val) (fourOf A c k) rfl (load_subset (four_subset k))) $$ Hr
  iintro Hr
  iapply (run_ret c)
  iapply Hk; iexact Hr

/-- The last slots are read, and the result is stored and copied out. -/
theorem finish_run (A : Dev nD → Args F) (K : PUnit → sProp 𝕄) (O : CellTallies nD τ sig Unit) :
    iprop(rbPts c 0 (RBof A c) ∗ sbPts c 0 16 (SBof A c) ∗ (∃ f, buf c cc0_scratch7 f) ∗ (∃ f, buf c main_v8 f) ∗ copyIdle c 0
        ∗ owing c O ∗ MayWait (c : Thread nD τ) (.dma (copyS 0)) () O
        ∗ ((rbPts c 0 (RBof A c) ∗ sbPts c 0 16 (SBof A c) ∗ buf c cc0_scratch7 (resOf A c) ∗ buf c main_v8 (resOf A c) ∗ copyIdle c 0 ∗ owing c O) -∗ K ⟨⟩))
      ⊢ run c (finish (F := F) (totOf A c)) K := by
  unfold finish
  have h3 : (Rect.unit (s := S15x32x1152) ![0, 0, 0] S3x32x1152.size inb_S15x32x1152_S3x32x1152_0_0_0).set ⊆ rbFrom 0 := by
    rw [rbFrom_all]; exact Finset.subset_univ _
  have h1 : (Rect.unit (s := S4x128x1152) ![3, 96, 0] S1x32x1152.size inb_S4x128x1152_S1x32x1152_3_96_0).set ⊆ sbRange 0 16 := by
    rw [sbRange_all]; exact Finset.subset_univ _
  iintro ⟨Hr, Hs, ⟨%f7, Ho⟩, ⟨%f8, Hres⟩, HI, HO, HM, Hk⟩
  iapply (run_load c (m := rbM) (f := RBof A c) (S := rbFrom 0) (threeOf A c) rfl (load_subset h3)) $$ Hr
  iintro Hr
  iapply (run_load c (m := sbM) (f := SBof A c) (S := sbRange 0 16) (ownOf A c) rfl (load_subset h1)) $$ Hs
  iintro Hs
  iapply (run_load c (m := ovM) (f := f7) (S := Finset.univ) f7 (Memref.readAt_unit_zero _ _ zero2 _ _) (Finset.subset_univ _)) $$ Ho
  iintro Ho
  iapply (run_store c (m := ovM) (r := Rect.unit (s := S128x1024) ![0, 0] S128x1024.size inb_S128x1024_S128x1024_0_0) (f := f7) (S := Finset.univ) (resOf A c)
    (Finset.subset_univ _) (fun i _ => congrFun (Memref.write_access_unit_zero_univ _ _ zero2 _ _ _) i)) $$ Ho
  iintro Ho
  iapply (run_copy c (src := ovM) (dst := outH) (i := 0) (fs := resOf A c) (fd := f8) (resOf A c) (View.set_whole _) (View.set_whole _)
    (View.dmaCredit_pos _ (by decide)) (View.write_whole_univ _ _ _)) $$ [Ho Hres HI]
  · isplitl [Ho]; · iexact Ho
    isplitl [Hres]; · iexact Hres
    iexact HI
  iintro HF
  iapply (run_landed c (i := 0) (n := outH.view.dmaCredit) rfl) $$ [HF HO HM]
  · isplitl [HF]; · iexact HF
    isplitl [HO]; · iexact HO
    iexact HM
  iintro ⟨⟨Hres, Ho⟩, HI, HO⟩
  iapply (run_ret c)
  iapply Hk
  isplitl [Hr]; · iexact Hr
  isplitl [Hs]; · iexact Hs
  isplitl [Ho]; · iexact Ho
  isplitl [Hres]; · iexact Hres
  isplitl [HI]; · iexact HI
  iexact HO

end Cert.KernelIdeal.Ring

end
-- ==== Proof.Talk.lean ====
/-
  The pieces of the body that talk: the barrier's signals and its wait, the sends, and the waits for departures and
  arrivals. The signals, the sends and the waits run over lists of slots, so each is proved by induction on its list.
-/
module

public import proofs.«01_k».proof.Proof.Local

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Facts₀ Cert.KernelIdeal.Facts

variable {F : FTy → Type} [FloatOps F]

local notation "𝕄" => MT nD τ sig Unit (Elt F) ℕ UU ℕ

/-! ## Conjunctions over lists of slots -/

/-- `Φ` of each slot of a list. -/
def each (Φ : Fin 15 → sProp 𝕄) : List (Fin 15) → sProp 𝕄
  | [] => iprop(emp)
  | k :: l => iprop(Φ k ∗ each Φ l)

/-- Over no slot there is nothing, -/
theorem each_nil (Φ : Fin 15 → sProp 𝕄) : each Φ [] = iprop(emp) := rfl
/-- over one more slot there is one thing more. -/
theorem each_cons (Φ : Fin 15 → sProp 𝕄) (k : Fin 15) (l : List (Fin 15)) : each Φ (k :: l) = iprop(Φ k ∗ each Φ l) := rfl

/-- It follows what it is made of. -/
theorem each_mono {Φ Ψ : Fin 15 → sProp 𝕄} (h : ∀ k, Φ k ⊢ Ψ k) : ∀ l : List (Fin 15), each Φ l ⊢ each Ψ l
  | [] => .rfl
  | k :: l => BI.sep_mono (h k) (each_mono h l)

/-- Over two lists it is both, -/
theorem each_append (Φ : Fin 15 → sProp 𝕄) : ∀ l l' : List (Fin 15), each Φ (l ++ l') ⊣⊢ iprop(each Φ l ∗ each Φ l')
  | [], _ => emp_sep.symm
  | _ :: l, l' => by
    show iprop(_ ∗ each Φ (l ++ l')) ⊣⊢ iprop((_ ∗ each Φ l) ∗ each Φ l')
    exact ⟨(sep_mono_right (each_append Φ l l').1).trans sep_assoc.2, sep_assoc.1.trans (sep_mono_right (each_append Φ l l').2)⟩

/-- and of pairs it is a pair. -/
theorem each_sep (Φ Ψ : Fin 15 → sProp 𝕄) : ∀ l : List (Fin 15), each (fun k => iprop(Φ k ∗ Ψ k)) l ⊣⊢ iprop(each Φ l ∗ each Ψ l)
  | [] => emp_sep.symm
  | k :: l => by
    show iprop((Φ k ∗ Ψ k) ∗ each (fun k => iprop(Φ k ∗ Ψ k)) l) ⊣⊢ iprop((Φ k ∗ each Φ l) ∗ (Ψ k ∗ each Ψ l))
    constructor
    · iintro ⟨⟨H1, H2⟩, H⟩
      ihave ⟨H3, H4⟩ := (each_sep Φ Ψ l).1 $$ H
      isplitl [H1 H3]
      · isplitl [H1] <;> iassumption
      · isplitl [H2] <;> iassumption
    · iintro ⟨⟨H1, H3⟩, H2, H4⟩
      isplitl [H1 H2]
      · isplitl [H1] <;> iassumption
      · iapply (each_sep Φ Ψ l).2
        isplitl [H3] <;> iassumption

/-- Over a list without repetition it is the product over the list's set. -/
theorem each_of_list (Φ : Fin 15 → sProp 𝕄) : ∀ l : List (Fin 15), l.Nodup → bigSep l.toFinset Φ = each Φ l
  | [], _ => rfl
  | k :: l, h => by
    rw [List.toFinset_cons, bigSep_insert (by rw [List.mem_toFinset]; exact (List.nodup_cons.mp h).1), each_of_list Φ l (List.nodup_cons.mp h).2]
    rfl

/-- The slots in the order they are signalled, and in the order they are sent and waited for. -/
abbrev rising : List (Fin 15) := [0, 1, 2, 3, 4, 5, 6, 7, 8, 9, 10, 11, 12, 13, 14]
/-- The slots whose copies a group sends, in order. -/
abbrev sentIn : Fin 4 → List (Fin 15)
  | 0 => [14, 13, 12, 11]
  | 1 => [10, 9, 8, 7]
  | 2 => [6, 5, 4, 3]
  | 3 => [2, 1, 0]

/-- Over all slots, in rising order, -/
theorem each_rising (Φ : Fin 15 → sProp 𝕄) : bigSep Finset.univ Φ = each Φ rising := by
  rw [← each_of_list Φ rising (by decide)]; exact congrArg (fun s => bigSep s Φ) (by decide)
/-- and over all slots, group by group. -/
theorem each_sent (Φ : Fin 15 → sProp 𝕄) :
    bigSep Finset.univ Φ ⊣⊢ iprop(each Φ (sentIn 0) ∗ each Φ (sentIn 1) ∗ each Φ (sentIn 2) ∗ each Φ (sentIn 3)) := by
  rw [show bigSep Finset.univ Φ = each Φ (sentIn 0 ++ (sentIn 1 ++ (sentIn 2 ++ sentIn 3))) from by
    rw [← each_of_list Φ _ (by decide)]; exact congrArg (fun s => bigSep s Φ) (by decide)]
  have h1 := each_append Φ (sentIn 0) (sentIn 1 ++ (sentIn 2 ++ sentIn 3))
  have h2 := each_append Φ (sentIn 1) (sentIn 2 ++ sentIn 3)
  have h3 := each_append Φ (sentIn 2) (sentIn 3)
  exact ⟨h1.1.trans (sep_mono_right (h2.1.trans (sep_mono_right h3.1))), (sep_mono_right ((sep_mono_right h3.2).trans h2.2)).trans h1.2⟩

/-- The devices are signalled in the order of the slots that they write, -/
theorem signalled_eq (c : Dev nD) : signalled c = rising.map (dn c) := by revert c; decide
/-- and the copies of a group go to those whose slots the group fills. -/
theorem sent_list (c : Dev nD) (g : Fin 4) : sent c g = (sentIn g).map fun k => (k, up c k) := by revert c g; decide

/-! ## The cells and their invariants -/

def barEmb : Dev nD ↪ GSem nD τ sig := ⟨fun c => barCell c, fun _ _ h => congrArg (fun g : GSem nD τ sig => g.1.1) h⟩
/-- Departure counters differ, -/
theorem sendS_inj : Function.Injective sendS := by decide
/-- arrival counters differ, -/
theorem recvS_inj : Function.Injective recvS := by decide
/-- The departure and the arrival semaphores, numbered together. -/
def exS : Fin 15 ⊕ Fin 15 → DmaSem sig
  | .inl k => sendS k
  | .inr k => recvS k
/-- and all of them differ. -/
theorem exS_inj : Function.Injective exS := by decide
/-- The exchange's cells over all devices, without repetition, -/
def exEmb : Dev nD × (Fin 15 ⊕ Fin 15) ↪ GSem nD τ sig :=
  ⟨fun p => ((p.1 : Thread nD τ), .dma (exS p.2)), fun _ _ h =>
    Prod.ext (congrArg (fun g : GSem nD τ sig => g.1.1) h) (exS_inj (SemLoc.dma.inj (congrArg Prod.snd h)))⟩
/-- The barrier cells; the departure and arrival cells. -/
abbrev barCells : Finset (GSem nD τ sig) := Finset.univ.map barEmb
/-- and as a set. -/
abbrev exCells : Finset (GSem nD τ sig) := Finset.univ.map exEmb

/-- Barrier cells have a record, -/
theorem bar_mem (c : Dev nD) : barCell c ∈ (barCells ∪ exCells : Finset (GSem nD τ sig)) :=
  Finset.mem_union_left _ (Finset.mem_map_of_mem barEmb (Finset.mem_univ c))
/-- departure cells have one, -/
theorem send_mem (c : Dev nD) (k : Fin 15) : sendCell c k ∈ (barCells ∪ exCells : Finset (GSem nD τ sig)) :=
  Finset.mem_union_right _ (Finset.mem_map_of_mem exEmb (Finset.mem_univ (c, Sum.inl k)))
/-- and arrival cells have one. -/
theorem recv_mem (c : Dev nD) (k : Fin 15) : recvCell c k ∈ (barCells ∪ exCells : Finset (GSem nD τ sig)) :=
  Finset.mem_union_right _ (Finset.mem_map_of_mem exEmb (Finset.mem_univ (c, Sum.inr k)))

variable (A : Dev nD → Args F)

/-- The schedule at the contents of the run. -/
abbrev RD : Rounds.Schedule (GSem nD τ sig) (Fin 15) 𝕄 := rd (SBof A) (RBof A)
/-- Every cell's invariant, and round 0 of every barrier cell reached. -/
def records (κ : GSem nD τ sig → ℕ) : sProp 𝕄 :=
  iprop((bigSep (barCells ∪ exCells) fun g => cellInv ER (RD A) (κ g) g) ∗ bigSep barCells fun g => reached ER g 0)
/-- The records may be used again and again. -/
instance records_persistent (κ : GSem nD τ sig → ℕ) : BI.Persistent (records A κ) := by unfold records; infer_instance

/-- The records hold each cell's invariant, -/
theorem inv_at (κ : GSem nD τ sig → ℕ) {g : GSem nD τ sig} (hg : g ∈ (barCells ∪ exCells : Finset (GSem nD τ sig))) :
    records A κ ⊢ cellInv ER (RD A) (κ g) g := by
  have h : (bigSep (barCells ∪ exCells) fun g => (cellInv ER (RD A) (κ g) g : sProp 𝕄)) ⊢ cellInv ER (RD A) (κ g) g := bigSep_elim hg
  unfold records
  iintro ⟨H, -⟩
  iapply h; iexact H
/-- and that the barrier's round is reached. -/
theorem reached_at (κ : GSem nD τ sig → ℕ) (c : Dev nD) : records A κ ⊢ reached ER (barCell c) 0 := by
  have h : (bigSep barCells fun g => (reached ER g 0 : sProp 𝕄)) ⊢ reached ER (barCell c) 0 := bigSep_elim (Finset.mem_map_of_mem barEmb (Finset.mem_univ c))
  unfold records
  iintro ⟨-, H⟩
  iapply h; iexact H

/-- A cell past its round is closed. -/
theorem closed (κ : GSem nD τ sig → ℕ) {g : GSem nD τ sig} (hg : g ∈ (barCells ∪ exCells : Finset (GSem nD τ sig))) :
    iprop(records A κ ∗ atPos ER g 1 ∅ 0) ⊢ (|={Set.univ}=> semVal g 0 : sProp 𝕄) :=
  (sep_mono_left (inv_at A κ hg)).trans (Rounds.cell_close ER (RD A) (Set.mem_univ (κ g)) id (duties_later (SBof A) (RBof A) g))

variable (κ : GSem nD τ sig → ℕ) (c : Dev nD)

/-! ## The barrier -/

/-- What a device owes with the barrier units of a list still to give. -/
def oweBar (O : CellTallies nD τ sig Unit) : List (Fin 15) → CellTallies nD τ sig Unit
  | [] => O
  | k :: l => oweBar O l + tallyAt (barCell (dn c k)) () 1
/-- All signals and all copies are what a device owes at first. -/
theorem oweBar_all : oweBar c (oweR c 15) rising = O₀ c := rfl

/-- What a device gives away with its `k`-th barrier unit. -/
def barRight (k : Fin 15) : sProp 𝕄 :=
  iprop(dutyTok ER (barCell (dn c k)) 0 k ∗ (∃ f, slotPts c k f) ∗ reached ER (recvCell c k) 0)

/-- Signalling devices one after another pays a unit each and gives away a slot each. -/
theorem signals_run (O : CellTallies nD τ sig Unit) (K : PUnit → sProp 𝕄) : ∀ l : List (Fin 15),
    iprop(records A κ ∗ owing c (oweBar c O l) ∗ each (barRight c) l ∗ (owing c O -∗ K ⟨⟩)) ⊢ run c (signals (F := F) (l.map (dn c))) K
  | [] => by
    iintro ⟨-, HO, -, Hk⟩
    iapply (run_ret c)
    iapply Hk; iexact HO
  | k :: l => by
    show iprop(_ ∗ _ ∗ (barRight c k ∗ each (barRight c) l) ∗ _) ⊢ run c (signals (dn c k :: l.map (dn c))) K
    unfold signals owing barRight
    iintro ⟨#HR, ⟨%W, HO⟩, ⟨⟨Ht, Hs, Hr⟩, Hl⟩, Hk⟩
    iapply (Rounds.wp_signal 𝒱₀ ER (RD A) (c : Thread nD τ) none (dst := (dn c k : Thread nD τ)) (sem := barS) (r := 0) (d := k) (κ := κ (barCell (dn c k)))
        (by rw [duties_bar]; exact Finset.mem_univ _) (amount_bar (SBof A) (RBof A) (dn c k) k) () (oweBar c O l) rfl) $$ [HO Ht Hs Hr]
    · isplitr; · iapply (inv_at A κ (bar_mem (dn c k))); iexact HR
      isplitl [HO]; · iexact HO
      isplitl [Ht]; · iexact Ht
      isplitl [Hs Hr]
      · rw [payload_bar]; unfold barPay; rw [up_dn]
        isplitl [Hs]; · iexact Hs
        iexact Hr
      · iapply (reached_at A κ (dn c k)); iexact HR
    iintro HO
    iapply (signals_run O K l)
    isplitr; · iexact HR
    isplitl [HO]; · unfold owing; iexists W; iexact HO
    isplitl [Hl]; · iexact Hl
    iexact Hk

/-- The wait for the fifteen units: every slot this device is to write comes with them. -/
theorem barrier_run {α : Type} (p : Code F α) (K : α → sProp 𝕄) :
    iprop(records A κ ∗ levAts L lv ∗ owing c (oweR c 15) ∗ cred (tallyAt (barCell c) () 15) ∗ atPos ER (barCell c) 0 ∅ 0
        ∗ ((owing c (oweR c 15) ∗ semVal (barCell c) 0 ∗ bigSep Finset.univ (barPay (F := F) c)) -∗ run c p K))
      ⊢ run c (do semWaitWord barS 15#32; p) K := by
  unfold owing
  iintro ⟨#HR, #Hlev, ⟨%W, HO⟩, Hc, Hat, Hk⟩
  iapply (Rounds.wp_wait_rest_token 𝒱₀ ER (RD A) (c : Thread nD τ) none (κ := κ (barCell c))
      (wpE_semWait_eq 𝒱₀ (c : Thread nD τ) none Set.univ) (Set.mem_univ _) () (O := oweR c 15) (W := W) (R := 0) (m := 0) (T := ∅)
      ((Nat.zero_add 15).trans (expect_bar (SBof A) (RBof A) c).symm)) $$ [Hc HO Hat]
  · isplitr; · iapply (inv_at A κ (bar_mem c)); iexact HR
    isplitl [Hc]; · iexact Hc
    isplitl [HO]; · iexact HO
    isplitr; · iapply (mayWait c 15 (.reg barS) (by rw [lv_bar])); iexact Hlev
    iexact Hat
  iintro ⟨HO, Hat, -, Hpay⟩
  ihave Hp := (Entails.of_eq (rest_bar (SBof A) (RBof A) c)) $$ Hpay
  imod (closed A κ (bar_mem c)) $$ [Hat] with Hv
  · isplitr; · iexact HR
    iexact Hat
  iapply Hk
  isplitl [HO]; · iexists _; iexact HO
  isplitl [Hv]; · iexact Hv
  iexact Hp

/-! ## The sends -/

/-- What a device owes with the slots of a list still to send. -/
def oweSend (O : CellTallies nD τ sig Unit) : List (Fin 15) → CellTallies nD τ sig Unit
  | [] => O
  | k :: l => oweSend O l + tallyAt (recvCell (up c k) k) () N

/-- What is owed before and after group 0, -/
theorem oweSend_0 : oweSend c (oweR c 11) (sentIn 0) = oweR c 15 := rfl
/-- group 1, -/
theorem oweSend_1 : oweSend c (oweR c 7) (sentIn 1) = oweR c 11 := rfl
/-- group 2, -/
theorem oweSend_2 : oweSend c (oweR c 3) (sentIn 2) = oweR c 7 := rfl
/-- and group 3. -/
theorem oweSend_3 : oweSend c 0 (sentIn 3) = oweR c 3 := rfl

/-- What a device needs to send to slot `k`: the two duties' tokens, the departure round, and what the barrier gave. -/
def sendRight (k : Fin 15) : sProp 𝕄 :=
  iprop(dutyTok ER (sendCell c k) 0 0 ∗ dutyTok ER (recvCell (up c k) k) 0 0 ∗ reached ER (sendCell c k) 0 ∗ barPay c k)

/-- Starting a group's copies pays an arrival each, and gives away a slice and a peer's slot each. -/
theorem sends_run (O : CellTallies nD τ sig Unit) (K : PUnit → sProp 𝕄) : ∀ l : List (Fin 15),
    iprop(records A κ ∗ owing c (oweSend c O l) ∗ each (sendRight c) l ∗ each (fun k => partPts c k (SBof A c)) l
        ∗ ((owing c O ∗ each (fun k => cred (tallyAt (sendCell c k) () N)) l) -∗ K ⟨⟩))
      ⊢ run c (sends (F := F) (l.map fun k => (k, up c k))) K
  | [] => by
    iintro ⟨-, HO, -, -, Hk⟩
    iapply (run_ret c)
    iapply Hk
    isplitl [HO]; · iexact HO
    rw [each_nil]; iempintro
  | k :: l => by
    show iprop(_ ∗ _ ∗ (sendRight c k ∗ each (sendRight c) l) ∗ (partPts c k (SBof A c) ∗ each (fun k => partPts c k (SBof A c)) l) ∗ _)
      ⊢ run c (sends ((k, up c k) :: l.map fun k => (k, up c k))) K
    unfold sends owing sendRight barPay
    iintro ⟨#HR, ⟨%W, HO⟩, ⟨⟨HtS, HtR, HrS, ⟨%f, Hd⟩, HrR⟩, Hl⟩, ⟨Hp, Hps⟩, Hk⟩
    iapply (Rounds.wp_send_pointsTo 𝒱₀ ER (RD A) (c : Thread nD τ) none (c' := (up c k : Thread nD τ)) (src := partM k) (dst := slotM k)
        (sS := .dma (sendS k)) (sem := .dma (recvS k)) (q := fullShare) (fs := SBof A c) (κ₁ := κ (sendCell c k)) (κ₂ := κ (recvCell (up c k) k))
        (r₁ := 0) (r₂ := 0) (d₁ := 0) (d₂ := 0) (fd := f)
        (by rw [duties_send]; exact Finset.mem_singleton_self _) (by rw [duties_recv]; exact Finset.mem_singleton_self _)
        () () N rfl (amount_send (SBof A) (RBof A) c k 0) (amount_recv (SBof A) (RBof A) (up c k) k 0) (oweSend c O l) rfl (W := W)
        (by rw [payload_send])
        (by rw [payload_recv]; exact Entails.of_eq (pointsTo_congr (slot_written A c k f)))) $$ [Hp Hd HO HtS HtR HrS HrR]
    · isplitr; · iapply (inv_at A κ (send_mem c k)); iexact HR
      isplitr; · iapply (inv_at A κ (recv_mem (up c k) k)); iexact HR
      isplitl [Hp]; · iexact Hp
      isplitl [Hd]; · iexact Hd
      isplitl [HO]; · iexact HO
      isplitl [HtS]; · iexact HtS
      isplitl [HrS]; · iexact HrS
      isplitl [HtR]; · iexact HtR
      iexact HrR
    iintro ⟨Hc, HO⟩
    iapply (sends_run O K l)
    isplitr; · iexact HR
    isplitl [HO]; · unfold owing; iexists W; iexact HO
    isplitl [Hl]; · unfold sendRight barPay; iexact Hl
    isplitl [Hps]; · iexact Hps
    iintro ⟨HO, Hcs⟩
    iapply Hk
    isplitl [HO]; · unfold owing; iexact HO
    rw [each_cons]
    isplitl [Hc]; · iexact Hc
    iexact Hcs

/-! ## The waits -/

/-- What a device needs to wait for slot `k`. -/
def waitRight (k : Fin 15) : sProp 𝕄 :=
  iprop(atPos ER (sendCell c k) 0 ∅ 0 ∗ atPos ER (recvCell c k) 0 ∅ 0 ∗ cred (tallyAt (recvCell c k) () N))
/-- What the two waits leave: the slice and the slot back, and both semaphores at zero. -/
def waitDone (k : Fin 15) : sProp 𝕄 :=
  iprop(partPts c k (SBof A c) ∗ slotPts c k (RBof A c) ∗ semVal (sendCell c k) 0 ∗ semVal (recvCell c k) 0)

/-- Waiting for copies brings back slices and brings in slots. -/
theorem waits_run (K : PUnit → sProp 𝕄) : ∀ l : List (Fin 15),
    iprop(records A κ ∗ owing c 0 ∗ each (waitRight c) l ∗ each (fun k => cred (tallyAt (sendCell c k) () N)) l
        ∗ ((owing c 0 ∗ each (waitDone A c) l) -∗ K ⟨⟩))
      ⊢ run c (waits (F := F) l) K
  | [] => by
    iintro ⟨-, HO, -, -, Hk⟩
    iapply (run_ret c)
    iapply Hk
    isplitl [HO]; · iexact HO
    rw [each_nil]; iempintro
  | k :: l => by
    show iprop(_ ∗ _ ∗ (waitRight c k ∗ each (waitRight c) l) ∗ (cred (tallyAt (sendCell c k) () N) ∗ each (fun k => cred (tallyAt (sendCell c k) () N)) l) ∗ _)
      ⊢ run c (waits (k :: l)) K
    unfold waits owing waitRight
    iintro ⟨#HR, ⟨%W, HO⟩, ⟨⟨HaS, HaR, HcR⟩, Hl⟩, ⟨HcS, Hcs⟩, Hk⟩
    iapply (Rounds.wp_wait_rest_token 𝒱₀ ER (RD A) (c : Thread nD τ) none (κ := κ (sendCell c k))
        (wpE_waitDma2_eq (src := slotM k) (dst := partM k) 𝒱₀ (c : Thread nD τ) none Set.univ) (Set.mem_univ _) () (O := 0) (W := W) (R := 0) (m := 0) (T := ∅)
        ((Nat.zero_add N).trans (expect_send (SBof A) (RBof A) c k).symm)) $$ [HcS HO HaS]
    · isplitr; · iapply (inv_at A κ (send_mem c k)); iexact HR
      isplitl [HcS]; · iexact HcS
      isplitl [HO]; · iexact HO
      isplitr; · rw [MayWait_zero]; iempintro
      iexact HaS
    iintro ⟨HO, HaS, -, Hpay⟩
    ihave Hp := (Entails.of_eq (rest_send (SBof A) (RBof A) c k)) $$ Hpay
    imod (closed A κ (send_mem c k)) $$ [HaS] with HvS
    · isplitr; · iexact HR
      iexact HaS
    iapply (Rounds.wp_wait_rest_token 𝒱₀ ER (RD A) (c : Thread nD τ) none (κ := κ (recvCell c k))
        (wpE_waitDma2_eq (src := partM k) (dst := slotM k) 𝒱₀ (c : Thread nD τ) none Set.univ) (Set.mem_univ _) () (O := 0) (R := 0) (m := 0) (T := ∅)
        ((Nat.zero_add N).trans (expect_recv (SBof A) (RBof A) c k).symm)) $$ [HcR HO HaR]
    · isplitr; · iapply (inv_at A κ (recv_mem c k)); iexact HR
      isplitl [HcR]; · iexact HcR
      isplitl [HO]; · iexact HO
      isplitr; · rw [MayWait_zero]; iempintro
      iexact HaR
    iintro ⟨HO, HaR, -, Hpay⟩
    ihave Hs := (Entails.of_eq (rest_recv (SBof A) (RBof A) c k)) $$ Hpay
    imod (closed A κ (recv_mem c k)) $$ [HaR] with HvR
    · isplitr; · iexact HR
      iexact HaR
    iapply (waits_run K l)
    isplitr; · iexact HR
    isplitl [HO]; · unfold owing; iexists _; iexact HO
    isplitl [Hl]; · unfold waitRight; iexact Hl
    isplitl [Hcs]; · iexact Hcs
    iintro ⟨HO, Hd⟩
    iapply Hk
    isplitl [HO]; · unfold owing; iexact HO
    rw [each_cons]
    isplitl [Hp Hs HvS HvR]
    · unfold waitDone
      isplitl [Hp]; · iexact Hp
      isplitl [Hs]; · iexact Hs
      isplitl [HvS] <;> iassumption
    iexact Hd

/-! ## Slices and slots taken apart and put together -/

/-- A slice of the send buffer is a range of one. -/
theorem part_eq (k : Fin 15) (f : (cc0_scratch8 : Ref sig .tc).ty.Contents (Elt F)) : partPts c k f = sbPts c (14 - k.val) (15 - k.val) f := by
  show (((c : Thread nD τ).loc cc0_scratch8) ↦[(partM k).view.set]{fullShare} f : sProp 𝕄) = _
  rw [part_set k]

/-- The slices of a list that falls by one each time are a range. -/
theorem parts_eq (f : (cc0_scratch8 : Ref sig .tc).ty.Contents (Elt F)) : ∀ (l : List (Fin 15)) (lo : ℕ),
    (∀ i (h : i < l.length), 14 - (l[i]).val = lo + i) → each (fun k => partPts c k f) l ⊣⊢ sbPts c lo (lo + l.length) f
  | [], lo, _ => by
    show iprop(emp) ⊣⊢ _
    rw [List.length_nil, Nat.add_zero]
    unfold sbPts
    rw [sbRange_empty, pointsTo_empty]
  | k :: l, lo, h => by
    have h0 : 14 - k.val = lo := h 0 (Nat.zero_lt_succ _)
    have ih := parts_eq f l (lo + 1) (fun i hi => by have := h (i + 1) (Nat.succ_lt_succ hi); simp only [List.getElem_cons_succ] at this; omega)
    have hs := sb_join c (lo := lo) (mid := lo + 1) (hi := lo + (k :: l).length) (by omega) (by simp only [List.length_cons]; omega) f
    have hk := k.isLt
    have e : partPts c k f = sbPts c lo (lo + 1) f := by rw [part_eq]; congr 2; omega
    have el : lo + (k :: l).length = lo + 1 + l.length := by simp only [List.length_cons]; omega
    show iprop(partPts c k f ∗ each (fun k => partPts c k f) l) ⊣⊢ _
    rw [e]
    rw [el] at hs ⊢
    exact ⟨(sep_mono_right ih.1).trans hs.2, hs.1.trans (sep_mono_right ih.2)⟩

/-- One more slot on top of those that follow. -/
theorem slot_join (k : Fin 15) (f : (cc0_scratch9 : Ref sig .tc).ty.Contents (Elt F)) :
    rbPts c k.val f ⊣⊢ iprop(slotPts c k f ∗ rbPts c (k.val + 1) f) := by
  show (((c : Thread nD τ).loc cc0_scratch9) ↦[rbFrom k.val]{fullShare} f : sProp 𝕄) ⊣⊢ iprop((((c : Thread nD τ).loc cc0_scratch9) ↦[slotSet k]{fullShare} f) ∗ (((c : Thread nD τ).loc cc0_scratch9) ↦[rbFrom (k.val + 1)]{fullShare} f))
  rw [slot_union k]
  exact pointsTo_union (slot_disjoint k)

/-- The slots of a list that falls by one each time, on top of those that follow. -/
theorem slots_join (f : (cc0_scratch9 : Ref sig .tc).ty.Contents (Elt F)) : ∀ (l : List (Fin 15)) (n : ℕ),
    (∀ i (h : i < l.length), (l[i]).val + i + 1 = n) → iprop(each (fun k => slotPts c k f) l ∗ rbPts c n f) ⊢ rbPts c (n - l.length) f
  | [], n, _ => by
    show iprop(emp ∗ _) ⊢ _
    exact BI.emp_sep.1
  | k :: l, n, h => by
    have h0 : k.val + 0 + 1 = n := h 0 (Nat.zero_lt_succ _)
    have ih := slots_join f l (n - 1) (fun i hi => by have := h (i + 1) (Nat.succ_lt_succ hi); simp only [List.getElem_cons_succ] at this; omega)
    have hn : n - (k :: l).length = n - 1 - l.length := by simp only [List.length_cons]; omega
    show iprop((slotPts c k f ∗ each (fun k => slotPts c k f) l) ∗ rbPts c n f) ⊢ _
    rw [hn]
    refine .trans ?_ ih
    iintro ⟨⟨Hk, Hl⟩, Hr⟩
    isplitl [Hl]; · iexact Hl
    rw [show n - 1 = k.val by omega, show n = k.val + 1 by omega]
    iapply (slot_join c k f).2
    isplitl [Hk] <;> iassumption

/-- Slots taken off the front, for a list that rises by one each time. -/
theorem slots_apart (f : (cc0_scratch9 : Ref sig .tc).ty.Contents (Elt F)) : ∀ (l : List (Fin 15)) (n : ℕ),
    (∀ i (h : i < l.length), (l[i]).val = n + i) → rbPts c n f ⊢ iprop(each (fun k => slotPts c k f) l ∗ rbPts c (n + l.length) f)
  | [], n, _ => BI.emp_sep.2
  | k :: l, n, h => by
    have h0 : k.val = n := h 0 (Nat.zero_lt_succ _)
    have ih := slots_apart f l (n + 1) (fun i hi => by have := h (i + 1) (Nat.succ_lt_succ hi); simp only [List.getElem_cons_succ] at this; omega)
    rw [each_cons, show n + (k :: l).length = n + 1 + l.length by simp only [List.length_cons]; omega]
    subst h0
    exact (slot_join c k f).1.trans ((sep_mono_right ih).trans sep_assoc.2)
/-- The whole receive buffer, slot by slot. -/
theorem slots_all_apart (f : (cc0_scratch9 : Ref sig .tc).ty.Contents (Elt F)) :
    rbPts c 0 f ⊢ each (fun k => iprop(∃ f, slotPts c k f)) rising := by
  have h := slots_apart c f rising 0 (by decide)
  refine h.trans ?_
  iintro ⟨H, -⟩
  iapply (each_mono (fun k => by iintro H; iexists f; iexact H) rising); iexact H
/-- No slot follows the last. -/
theorem slots_none (f : (cc0_scratch9 : Ref sig .tc).ty.Contents (Elt F)) : (iprop(emp) : sProp 𝕄) ⊢ rbPts c 15 f := by
  unfold rbPts; rw [rbFrom_none, pointsTo_empty]

end Cert.KernelIdeal.Ring

end
-- ==== Proof.Body.lean ====
/-
  The whole body of a device: from its arguments and its rights in the exchange to its result.
-/
module

public import proofs.«01_k».proof.Proof.Talk

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Facts₀ Cert.KernelIdeal.Facts

variable {F : FTy → Type} [FloatOps F]

local notation "𝕄" => MT nD τ sig Unit (Elt F) ℕ UU ℕ

variable (A : Dev nD → Args F) (κ : GSem nD τ sig → ℕ) (c : Dev nD)

/-! ## Larger pieces -/

/-- Four chunks loaded. -/
theorem chunks_run {α : Type} (a : Args F) (r₀ r₁ r₂ r₃ : Rows) (k : Chunk F → Chunk F → Chunk F → Chunk F → Code F α) (K : α → sProp 𝕄) :
    iprop(buf c cc0_scratch1 (xbOf a) ∗ buf c cc0_scratch6 (mpOf a)
        ∗ ((buf c cc0_scratch1 (xbOf a) ∗ buf c cc0_scratch6 (mpOf a)) -∗ run c (k (chunkOf a r₀) (chunkOf a r₁) (chunkOf a r₂) (chunkOf a r₃)) K))
      ⊢ run c (do let a₀ ← chunk r₀; let a₁ ← chunk r₁; let a₂ ← chunk r₂; let a₃ ← chunk r₃; k a₀ a₁ a₂ a₃) K := by
  iintro ⟨Hx, Hp, Hk⟩
  iapply (run_seq c (chunk r₀))
  iapply (chunk_run c a r₀)
  isplitl [Hx]; · iexact Hx
  isplitl [Hp]; · iexact Hp
  iintro ⟨Hx, Hp⟩
  iapply (run_seq c (chunk r₁))
  iapply (chunk_run c a r₁)
  isplitl [Hx]; · iexact Hx
  isplitl [Hp]; · iexact Hp
  iintro ⟨Hx, Hp⟩
  iapply (run_seq c (chunk r₂))
  iapply (chunk_run c a r₂)
  isplitl [Hx]; · iexact Hx
  isplitl [Hp]; · iexact Hp
  iintro ⟨Hx, Hp⟩
  iapply (run_seq c (chunk r₃))
  iapply (chunk_run c a r₃)
  isplitl [Hx]; · iexact Hx
  isplitl [Hp]; · iexact Hp
  iexact Hk

/-- The slices of a group are sent in order, -/
theorem sentIn_at (g : Fin 4) : ∀ i (h : i < (sentIn g).length), 14 - ((sentIn g)[i]).val = 4 * g.val + i := by revert g; decide
/-- so the slots still owed count down, -/
theorem sentIn_top (g : Fin 4) : ∀ i (h : i < (sentIn g).length), ((sentIn g)[i]).val + i + 1 = 15 - 4 * g.val := by revert g; decide
/-- and a group sends at most four. -/
theorem sentIn_le (g : Fin 4) : (sentIn g).length ≤ 4 := by revert g; decide

/-- A group answered and its slices sent. -/
theorem group_run {α : Type} (g : Fin 4) (O : CellTallies nD τ sig Unit) (p : Code F α) (K : α → sProp 𝕄) :
    iprop(records A κ ∗ owing c (oweSend c O (sentIn g)) ∗ buf c cc0_scratch3 (ewbOf (A c)) ∗ (∃ f, sbPts c (4 * g.val) 16 f) ∗ each (sendRight c) (sentIn g)
        ∗ ((owing c O ∗ buf c cc0_scratch3 (ewbOf (A c)) ∗ sbPts c (4 * g.val + (sentIn g).length) (4 * g.val + 4) (SBof A c) ∗ (∃ f, sbPts c (4 * g.val + 4) 16 f)
            ∗ each (fun k => cred (tallyAt (sendCell c k) () N)) (sentIn g)) -∗ run c p K))
      ⊢ run c (do answer (posWord c) g (chunkOf (A c) (rowsAt c ⟨4 * g.val, by omega⟩)) (chunkOf (A c) (rowsAt c ⟨4 * g.val + 1, by omega⟩))
                    (chunkOf (A c) (rowsAt c ⟨4 * g.val + 2, by omega⟩)) (chunkOf (A c) (rowsAt c ⟨4 * g.val + 3, by omega⟩))
                  sends (sent c g)
                  p) K := by
  rw [sent_list]
  iintro ⟨#HR, HO, Hm, Hs, Hl, Hk⟩
  iapply (run_seq c (answer _ _ _ _ _ _))
  iapply (answer_run c A g)
  isplitl [Hm]; · iexact Hm
  isplitl [Hs]; · iexact Hs
  iintro ⟨Hm, Hs, Hrest⟩
  ihave ⟨Hs, Hown⟩ := (sb_join c (Nat.le_add_right _ (sentIn g).length) (Nat.add_le_add_left (sentIn_le g) _) (SBof A c)).1 $$ Hs
  ihave Hs := (parts_eq c (SBof A c) (sentIn g) (4 * g.val) (sentIn_at g)).2 $$ Hs
  iapply (run_seq c (sends _))
  iapply (sends_run A κ c O _ (sentIn g))
  isplitr; · iexact HR
  isplitl [HO]; · iexact HO
  isplitl [Hl]; · iexact Hl
  isplitl [Hs]; · iexact Hs
  iintro ⟨HO, Hc⟩
  iapply Hk
  isplitl [HO]; · iexact HO
  isplitl [Hm]; · iexact Hm
  isplitl [Hown]; · iexact Hown
  isplitl [Hrest]; · iexact Hrest
  iexact Hc

/-- Both semaphores of slot `k` at zero. -/
def exIdle (k : Fin 15) : sProp 𝕄 := iprop(semVal (sendCell c k) 0 ∗ semVal (recvCell c k) 0)

/-- The waits of a group: its slices and its slots come back, beside those that came before. -/
theorem arrived_run {α : Type} (g : Fin 4) (p : Code F α) (K : α → sProp 𝕄) :
    iprop(records A κ ∗ owing c 0 ∗ each (waitRight c) (sentIn g) ∗ each (fun k => cred (tallyAt (sendCell c k) () N)) (sentIn g)
        ∗ sbPts c 0 (4 * g.val) (SBof A c) ∗ rbPts c (15 - 4 * g.val) (RBof A c)
        ∗ ((owing c 0 ∗ sbPts c 0 (4 * g.val + (sentIn g).length) (SBof A c) ∗ rbPts c (15 - 4 * g.val - (sentIn g).length) (RBof A c) ∗ each (exIdle c) (sentIn g))
            -∗ run c p K))
      ⊢ run c (do waits (sentIn g); p) K := by
  iintro ⟨#HR, HO, Hw, Hc, Hs, Hr, Hk⟩
  iapply (run_seq c (waits _))
  iapply (waits_run A κ c _ (sentIn g))
  isplitr; · iexact HR
  isplitl [HO]; · iexact HO
  isplitl [Hw]; · iexact Hw
  isplitl [Hc]; · iexact Hc
  iintro ⟨HO, Hd⟩
  ihave Hd := (Entails.of_eq (show each (waitDone A c) (sentIn g) = each (fun k => iprop(partPts c k (SBof A c) ∗ slotPts c k (RBof A c) ∗ exIdle c k)) (sentIn g) from rfl)) $$ Hd
  ihave ⟨Hp, Hd⟩ := (each_sep (fun k => partPts c k (SBof A c)) (fun k => iprop(slotPts c k (RBof A c) ∗ exIdle c k)) (sentIn g)).1 $$ Hd
  ihave ⟨Hsl, Hi⟩ := (each_sep (fun k => slotPts c k (RBof A c)) (exIdle c) (sentIn g)).1 $$ Hd
  ihave Hp := (parts_eq c (SBof A c) (sentIn g) (4 * g.val) (sentIn_at g)).1 $$ Hp
  iapply Hk
  isplitl [HO]; · iexact HO
  isplitl [Hs Hp]
  · iapply (sb_join c (Nat.zero_le _) (Nat.le_add_right (4 * g.val) (sentIn g).length) (SBof A c)).2
    isplitl [Hs] <;> iassumption
  isplitl [Hsl Hr]
  · iapply (slots_join c (RBof A c) (sentIn g) (15 - 4 * g.val) (sentIn_top g))
    isplitl [Hsl] <;> iassumption
  iexact Hi

/-! ## The body -/

/-- A buffer at contents not chosen. -/
abbrev anyAt (b : Ref sig .tc) : sProp 𝕄 := iprop(∃ f, buf c b f)
/-- What a device has of slot `k` of the exchange before the barrier. -/
def exRight (k : Fin 15) : sProp 𝕄 :=
  iprop(dutyTok ER (sendCell c k) 0 0 ∗ dutyTok ER (recvCell (up c k) k) 0 0 ∗ reached ER (sendCell c k) 0)

/-- The device's arguments where the body finds them and leaves them. -/
def argsPts (a : Args F) : sProp 𝕄 :=
  iprop(buf c main_arg0 a.x ∗ buf c main_arg3 a.ew ∗ buf c main_arg4 a.sw ∗ buf c cc0_stg0_0 a.rw ∗ buf c cc0_stg1_0 a.oh)
/-- The scratch buffers, at contents not chosen. -/
def scratch : sProp 𝕄 :=
  iprop(anyAt c cc0_scratch0 ∗ anyAt c cc0_scratch1 ∗ anyAt c cc0_scratch2 ∗ anyAt c cc0_scratch3 ∗ anyAt c cc0_scratch4 ∗ anyAt c cc0_scratch5
    ∗ anyAt c cc0_scratch6 ∗ anyAt c cc0_scratch7 ∗ anyAt c cc0_scratch8 ∗ anyAt c cc0_scratch9)
/-- The three local copies' semaphores at zero. -/
def copiesIdle : sProp 𝕄 := iprop(copyIdle c 0 ∗ copyIdle c 1 ∗ copyIdle c 2)
/-- The device's rights in the exchange. -/
def talk : sProp 𝕄 :=
  iprop(each (fun k => dutyTok ER (barCell (dn c k)) 0 k) rising ∗ cred (tallyAt (barCell c) () 15) ∗ atPos ER (barCell c) 0 ∅ 0
    ∗ each (fun k => reached ER (recvCell c k) 0) rising ∗ bigSep Finset.univ (exRight (F := F) c) ∗ bigSep Finset.univ (waitRight (F := F) c))

/-- Everything the body starts from. -/
def bodyPre : sProp 𝕄 :=
  iprop(argsPts c (A c) ∗ anyAt c main_v8 ∗ scratch c ∗ copiesIdle c ∗ talk c ∗ owing c (O₀ c))
/-- Everything it leaves. -/
def bodyPost : sProp 𝕄 :=
  iprop(argsPts c (A c) ∗ buf c main_v8 (resOf A c) ∗ scratch c ∗ copiesIdle c ∗ (semVal (barCell c) 0 ∗ bigSep Finset.univ (exIdle (F := F) c)) ∗ owing c 0)

/-- The whole send buffer is all its slices, -/
theorem sb_whole (f : (cc0_scratch8 : Ref sig .tc).ty.Contents (Elt F)) : buf c cc0_scratch8 f = sbPts c 0 16 f := by
  unfold sbPts; rw [sbRange_all]
/-- and the whole receive buffer all its slots. -/
theorem rb_whole (f : (cc0_scratch9 : Ref sig .tc).ty.Contents (Elt F)) : buf c cc0_scratch9 f = rbPts c 0 f := by
  unfold rbPts; rw [rbFrom_all]
/-- A device that owes nothing may wait for a local copy. -/
theorem owing_zero (i : Fin 3) : (iprop(emp) : sProp 𝕄) ⊢ MayWait (c : Thread nD τ) (.dma (copyS i)) () 0 := by
  rw [MayWait_zero]; exact .rfl
/-- The local copies' counters lie below the arrivals. -/
theorem copy_level (i : Fin 3) : lv ((c : Thread nD τ), .dma (copyS i)) () ≤ 1 := by revert c i; decide

/-- With what the barrier gives, a device may send to every slot. -/
theorem rights_all : iprop(bigSep Finset.univ (exRight (F := F) c) ∗ bigSep Finset.univ (barPay (F := F) c)) ⊢ bigSep Finset.univ (sendRight (F := F) c) := by
  have h (k : Fin 15) : iprop(exRight (F := F) c k ∗ barPay c k) ⊢ sendRight c k := by
    unfold exRight sendRight
    iintro ⟨⟨Ha, Hb, Hc⟩, Hd⟩
    isplitl [Ha]; · iexact Ha
    isplitl [Hb]; · iexact Hb
    isplitl [Hc] <;> iassumption
  rw [← bigSep_sep']
  exact bigSep_mono fun k _ => h k

set_option maxHeartbeats 800000 in
/-- The body runs from what it starts from to what it leaves. -/
theorem body_run (K : PUnit → sProp 𝕄) :
    iprop(records A κ ∗ levAts L lv ∗ bodyPre A c ∗ (bodyPost A c -∗ K ⟨⟩)) ⊢ run c (flow (F := F) c) K := by
  unfold bodyPre argsPts scratch copiesIdle talk flow
  iintro ⟨#HR, #Hlev, ⟨⟨Hx, Hew, Hsw, Hrw, Hoh⟩, Hres, ⟨H0, H1, H2, H3, H4, H5, H6, H7, ⟨%f8, H8⟩, ⟨%f9, H9⟩⟩, ⟨HI0, HI1, HI2⟩,
    ⟨Htb, Hcb, Hab, Hrr, Hex, Hwt⟩, HO⟩, Hk⟩
  ihave H8 := (Entails.of_eq (sb_whole c f8)) $$ H8
  ihave H9 := (Entails.of_eq (rb_whole c f9)) $$ H9
  -- the copies in
  iapply (run_seq c starts)
  iapply (starts_run c (A c))
  isplitl [Hx]; · iexact Hx
  isplitl [Hew]; · iexact Hew
  isplitl [Hsw]; · iexact Hsw
  isplitl [H0]; · iexact H0
  isplitl [H2]; · iexact H2
  isplitl [H4]; · iexact H4
  isplitl [HI0]; · iexact HI0
  isplitl [HI1]; · iexact HI1
  isplitl [HI2]; · iexact HI2
  iintro ⟨HF0, HF1, HF2⟩
  -- the signals
  rw [signalled_eq]
  iapply (run_seq c (signals _))
  iapply (signals_run A κ c (oweR c 15) _ rising)
  isplitr; · iexact HR
  isplitl [HO]; · iexact HO
  isplitl [Htb H9 Hrr]
  · ihave H9 := (slots_all_apart c f9) $$ H9
    iapply (each_sep (fun k => dutyTok ER (barCell (dn c k)) 0 k) (fun k => iprop((∃ f, slotPts c k f) ∗ reached ER (recvCell c k) 0)) rising).2
    isplitl [Htb]; · iexact Htb
    iapply (each_sep (fun k => iprop(∃ f, slotPts c k f)) (fun k => reached ER (recvCell c k) 0) rising).2
    isplitl [H9] <;> iassumption
  iintro HO
  -- the casts and the gate values
  iapply (run_seq c gates)
  iapply (gates_run c (A c) _ (oweR c 15))
  isplitl [HF0]; · iexact HF0
  isplitl [HO]; · iexact HO
  isplitr; · iapply (mayWait c 15 (.dma (copyS 0)) (copy_level c 0)); iexact Hlev
  isplitl [Hrw]; · iexact Hrw
  isplitl [Hoh]; · iexact Hoh
  isplitl [H1]; · iexact H1
  isplitl [H6]; · iexact H6
  iintro ⟨H0, Hx, HI0, HO, Hrw, Hoh, H1, H6⟩
  -- the barrier
  iapply (barrier_run A κ c)
  isplitr; · iexact HR
  isplitr; · iexact Hlev
  isplitl [HO]; · iexact HO
  isplitl [Hcb]; · iexact Hcb
  isplitl [Hab]; · iexact Hab
  iintro ⟨HO, HvB, Hbar⟩
  ihave Hsr := (rights_all c) $$ [Hex Hbar]
  · isplitl [Hex] <;> iassumption
  ihave ⟨HsA, HsB, HsC, HsD⟩ := (each_sent (sendRight (F := F) c)).1 $$ Hsr
  ihave ⟨HwA, HwB, HwC, HwD⟩ := (each_sent (waitRight (F := F) c)).1 $$ Hwt
  -- the first group
  iapply (chunks_run c (A c))
  isplitl [H1]; · iexact H1
  isplitl [H6]; · iexact H6
  iintro ⟨H1, H6⟩
  iapply (run_seq c experts)
  iapply (experts_run c (A c) _ (oweR c 15))
  isplitl [HF1]; · iexact HF1
  isplitl [HO]; · iexact HO
  isplitr; · iapply (mayWait c 15 (.dma (copyS 1)) (copy_level c 1)); iexact Hlev
  isplitl [H3]; · iexact H3
  iintro ⟨H2, Hew, HI1, HO, H3⟩
  iapply (group_run A κ c 0 (oweR c 11))
  isplitr; · iexact HR
  isplitl [HO]; · iexact HO
  isplitl [H3]; · iexact H3
  isplitl [H8]; · iexists f8; iexact H8
  isplitl [HsA]; · iexact HsA
  iintro ⟨HO, H3, -, H8, HcA⟩
  -- the second
  iapply (chunks_run c (A c))
  isplitl [H1]; · iexact H1
  isplitl [H6]; · iexact H6
  iintro ⟨H1, H6⟩
  iapply (group_run A κ c 1 (oweR c 7))
  isplitr; · iexact HR
  isplitl [HO]; · iexact HO
  isplitl [H3]; · iexact H3
  isplitl [H8]; · iexact H8
  isplitl [HsB]; · iexact HsB
  iintro ⟨HO, H3, -, H8, HcB⟩
  -- the third
  iapply (chunks_run c (A c))
  isplitl [H1]; · iexact H1
  isplitl [H6]; · iexact H6
  iintro ⟨H1, H6⟩
  iapply (group_run A κ c 2 (oweR c 3))
  isplitr; · iexact HR
  isplitl [HO]; · iexact HO
  isplitl [H3]; · iexact H3
  isplitl [H8]; · iexact H8
  isplitl [HsC]; · iexact HsC
  iintro ⟨HO, H3, -, H8, HcC⟩
  -- the last, whose fourth chunk is the device's own
  iapply (chunks_run c (A c))
  isplitl [H1]; · iexact H1
  isplitl [H6]; · iexact H6
  iintro ⟨H1, H6⟩
  iapply (group_run A κ c 3 0)
  isplitr; · iexact HR
  isplitl [HO]; · iexact HO
  isplitl [H3]; · iexact H3
  isplitl [H8]; · iexact H8
  isplitl [HsD]; · iexact HsD
  iintro ⟨HO, H3, Hown, -, HcD⟩
  -- the shared product
  iapply (run_seq c (shared c))
  iapply (shared_run c A _ 0)
  isplitl [HF2]; · iexact HF2
  isplitl [HO]; · iexact HO
  isplitr; · iapply (owing_zero c 2); iempintro
  isplitl [H5]; · iexact H5
  isplitl [H1]; · iexact H1
  iintro ⟨H4, Hsw, HI2, HO, H5, H1⟩
  -- the arrivals
  iapply (arrived_run A κ c 0)
  isplitr; · iexact HR
  isplitl [HO]; · iexact HO
  isplitl [HwA]; · iexact HwA
  isplitl [HcA]; · iexact HcA
  isplitr; · iapply (Entails.of_eq (show (iprop(emp) : sProp 𝕄) = sbPts c 0 (4 * (0 : Fin 4).val) (SBof A c) from by unfold sbPts; rw [show 4 * (0 : Fin 4).val = 0 from rfl, sbRange_empty, pointsTo_empty])); iempintro
  isplitr; · iapply (slots_none c (RBof A c)); iempintro
  iintro ⟨HO, Hsb, Hrb, HiA⟩
  iapply (run_seq c (four 11))
  iapply (four_run c A 11)
  isplitl [Hrb]; · iexact Hrb
  iintro Hrb
  iapply (arrived_run A κ c 1)
  isplitr; · iexact HR
  isplitl [HO]; · iexact HO
  isplitl [HwB]; · iexact HwB
  isplitl [HcB]; · iexact HcB
  isplitl [Hsb]; · iexact Hsb
  isplitl [Hrb]; · iexact Hrb
  iintro ⟨HO, Hsb, Hrb, HiB⟩
  iapply (run_seq c (four 7))
  iapply (four_run c A 7)
  isplitl [Hrb]; · iexact Hrb
  iintro Hrb
  iapply (arrived_run A κ c 2)
  isplitr; · iexact HR
  isplitl [HO]; · iexact HO
  isplitl [HwC]; · iexact HwC
  isplitl [HcC]; · iexact HcC
  isplitl [Hsb]; · iexact Hsb
  isplitl [Hrb]; · iexact Hrb
  iintro ⟨HO, Hsb, Hrb, HiC⟩
  iapply (run_seq c (four 3))
  iapply (four_run c A 3)
  isplitl [Hrb]; · iexact Hrb
  iintro Hrb
  iapply (arrived_run A κ c 3)
  isplitr; · iexact HR
  isplitl [HO]; · iexact HO
  isplitl [HwD]; · iexact HwD
  isplitl [HcD]; · iexact HcD
  isplitl [Hsb]; · iexact Hsb
  isplitl [Hrb]; · iexact Hrb
  iintro ⟨HO, Hsb, Hrb, HiD⟩
  -- the sum, and the copy out
  ihave Hsb := (sb_join c (lo := 0) (mid := 15) (hi := 16) (by decide) (by decide) (SBof A c)).2 $$ [Hsb Hown]
  · isplitl [Hsb] <;> iassumption
  iapply (finish_run c A _ 0)
  isplitl [Hrb]; · iexact Hrb
  isplitl [Hsb]; · iexact Hsb
  isplitl [H7]; · iexact H7
  isplitl [Hres]; · iexact Hres
  isplitl [HI0]; · iexact HI0
  isplitl [HO]; · iexact HO
  isplitr; · iapply (owing_zero c 0); iempintro
  iintro ⟨Hrb, Hsb, H7, Hres, HI0, HO⟩
  iapply Hk
  unfold bodyPost argsPts scratch copiesIdle
  isplitl [Hx Hew Hsw Hrw Hoh]
  · isplitl [Hx]; · iexact Hx
    isplitl [Hew]; · iexact Hew
    isplitl [Hsw]; · iexact Hsw
    isplitl [Hrw] <;> iassumption
  isplitl [Hres]; · iexact Hres
  isplitl [H0 H1 H2 H3 H4 H5 H6 H7 Hsb Hrb]
  · isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [Hsb]; · iexists _; iapply (Entails.of_eq (sb_whole c (SBof A c)).symm); iexact Hsb
    iexists _; iapply (Entails.of_eq (rb_whole c (RBof A c)).symm); iexact Hrb
  isplitl [HI0 HI1 HI2]
  · isplitl [HI0]; · iexact HI0
    isplitl [HI1] <;> iassumption
  isplitl [HvB HiA HiB HiC HiD]
  · isplitl [HvB]; · iexact HvB
    iapply (each_sent (exIdle (F := F) c)).2
    isplitl [HiA]; · iexact HiA
    isplitl [HiB]; · iexact HiB
    isplitl [HiC] <;> iassumption
  iexact HO

end Cert.KernelIdeal.Ring

end
-- ==== Proof.Region.lean ====
/-
  The kernel's region of @main: its own semaphores opened at the region's entry, the body run, the counters given back.

  Before the region come the seven host operations; `V₁ m c` is what the buffers of device `c` hold after them, and
  `A m c` what the kernel reads of it. After the region only the result buffer differs (`V₂ m c`).
-/
module

public import proofs.«01_k».proof.Proof.Body
public import proofs.«01_k».proof.Proof.Gen.KernelIdeal.Frame
public import Idealize.ShloMosaic.Lib.Pipeline.Regions
public import Idealize.ShloMosaic.Lib.Pipeline.Kit
public import Idealize.ShloMosaic.Lib.Pipeline.RegionTalk

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)

variable {F : FTy → Type} [FloatOps F]

local notation "𝕄" => MT nD τ sig Unit (Elt F) ℕ UU ℕ

variable (m : (ℓ : Loc nD τ sig) → Buf (Elt F) ℓ)

/-! ## The buffers -/

/-- What the buffers hold at launch, after the host operations, and after the region. -/
abbrev V₀ (c : Dev nD) : Valuation τ sig (Elt F) := fun b => m (c, b)
/-- What the buffers hold after the host operations. -/
abbrev V₁ (c : Dev nD) : Valuation τ sig (Elt F) := StableHlo.after Gen.hostOps0 (V₀ m c)
/-- What the kernel reads on device `c`. -/
def A (c : Dev nD) : Args F :=
  ⟨V₁ m c main_arg0, V₁ m c main_v1, V₁ m c main_v7, V₁ m c main_arg3, V₁ m c main_arg4⟩
/-- What they hold after the region. -/
abbrev V₂ (c : Dev nD) : Valuation τ sig (Elt F) := Function.update (V₁ m c) (Proc.devRef .tc main_v8) (resOf (A m) c)

/-- After the region the result is there, -/
theorem V₂_res (c : Dev nD) : V₂ m c main_v8 = resOf (A m) c := Function.update_self ..
/-- and all else is as before. -/
theorem V₂_of_ne (c : Dev nD) {b : DevRef τ sig} (h : b ≠ Proc.devRef .tc main_v8) : V₂ m c b = V₁ m c b := Function.update_of_ne h ..

/-- The unscoped buffers, and the windows' arrays among them. -/
abbrev bufs : Finset (DevRef τ sig) := Pipeline.ucRefs τ sig
/-- The arrays that the region brings in itself. -/
abbrev arrs : Finset (DevRef τ sig) := Pipeline.arrRefs (τ := τ) spec0
/-- The buffers the body addresses itself. -/
def hbm : Finset (DevRef τ sig) := {Proc.devRef .tc main_arg0, Proc.devRef .tc main_arg3, Proc.devRef .tc main_arg4, Proc.devRef .tc main_v8}
/-- They are among the buffers, -/
theorem arrs_sub : (arrs : Finset (DevRef τ sig)) ⊆ bufs := Pipeline.arrRefs_sub_ucRefs spec0 (by decide)
/-- none is the result, -/
theorem arr_ne : ∀ w, (Proc.devRef .tc (Pipeline.arrRef spec0 w) : DevRef τ sig) ≠ Proc.devRef .tc main_v8 := by decide
/-- and the arrays that the body copies are not among them. -/
theorem hbm_sub : hbm ⊆ bufs \ arrs := by decide

/-- The arrays that the body copies, one by one. -/
theorem hbm_held (c : Dev nD) (W : Valuation τ sig (Elt F)) : (StableHlo.held (c : Thread nD τ) hbm W : sProp 𝕄)
    = iprop(buf c main_arg0 (W main_arg0) ∗ buf c main_arg3 (W main_arg3) ∗ buf c main_arg4 (W main_arg4) ∗ buf c main_v8 (W main_v8)) := by
  unfold StableHlo.held hbm
  rw [bigSep_eq_bigSepL_of_eq [Proc.devRef .tc main_arg0, Proc.devRef .tc main_arg3, Proc.devRef .tc main_arg4, Proc.devRef .tc main_v8] (by decide) (by decide)]
  rfl

/-! ## The kernel's own semaphores -/

/-- The departures, the arrivals and the local copies. -/
def osem : (Fin 15 ⊕ Fin 15) ⊕ Fin 3 → SemLoc sig
  | .inl i => .dma (exS i)
  | .inr i => .dma (copyS i)
/-- The body's counters are its own. -/
theorem osem_facts : Pipeline.OwnSemFacts spec0 osem := by decide

/-- They are those of the exchange and of the local copies. -/
theorem ownSems_eq (c : Dev nD) : (Pipeline.ownSems0 osem c : sProp 𝕄) = iprop(bigSep Finset.univ (exIdle (F := F) c) ∗ copiesIdle c) := by
  unfold Pipeline.ownSems0
  rw [bigSep_univ_sum, bigSep_univ_sum]
  have h3 : (bigSep Finset.univ fun i : Fin 3 => (semVal ((c : Thread nD τ), osem (.inr i)) 0 : sProp 𝕄)) = copiesIdle c :=
    bigSep_univ_eq_bigSepL [(0 : Fin 3), 1, 2] (by decide) (by decide) _
  rw [h3]
  unfold exIdle
  rw [bigSep_sep']
  rfl

/-- What a device holds of the exchange at launch. -/
def linear (c : Dev nD) : sProp 𝕄 :=
  iprop(atPos ER (barCell c) 0 ∅ 0 ∗ (bigSep Finset.univ fun k => iprop(openTok ER (sendCell c k) ∗ openTok ER (recvCell c k)))
    ∗ (bigSep Finset.univ fun k => dutyTok ER (barCell (dn c k)) 0 k)
    ∗ (bigSep Finset.univ fun k => iprop(dutyTok ER (sendCell c k) 0 0 ∗ dutyTok ER (recvCell (up c k) k) 0 0)))
/-- Its credit: fifteen barrier units, and one copy on each arrival. -/
def credit (c : Dev nD) : sProp 𝕄 :=
  iprop(cred (tallyAt (barCell c) () 15) ∗ bigSep Finset.univ fun k => cred (tallyAt (recvCell c k) () N))

/-- What a device takes into the region, -/
def Tk (c : Dev nD) : sProp 𝕄 := iprop((∃ κ, records (A m) κ) ∗ linear (F := F) c ∗ credit (F := F) c)
/-- what its body starts with, -/
def Xk (c : Dev nD) : sProp 𝕄 := iprop((∃ κ, records (A m) κ) ∗ levAts L lv ∗ copiesIdle c ∗ talk (F := F) c)
/-- and what it takes out. -/
def Yk (c : Dev nD) : sProp 𝕄 := semVal (barCell c) 0

/-- Opening one slot's two cells. -/
def opened (c : Dev nD) (k : Fin 15) : sProp 𝕄 :=
  iprop((atPos ER (sendCell c k) 0 ∅ 0 ∗ reached ER (sendCell c k) 0) ∗ (atPos ER (recvCell c k) 0 ∅ 0 ∗ reached ER (recvCell c k) 0))

/-- Regrouping. -/
theorem pull (P Q R : sProp 𝕄) : iprop((P ∗ Q) ∗ R) ⊢ iprop(P ∗ Q ∗ R) := by
  iintro ⟨⟨Ha, Hb⟩, Hc⟩
  isplitl [Ha]; · iexact Ha
  isplitl [Hb] <;> iassumption
/-- Reordering. -/
theorem opened_turn (P Q R S : sProp 𝕄) : iprop((P ∗ Q) ∗ R ∗ S) ⊢ iprop(S ∗ Q ∗ P ∗ R) := by
  iintro ⟨⟨Ha, Hb⟩, Hc, Hd⟩
  isplitl [Hd]; · iexact Hd
  isplitl [Hb]; · iexact Hb
  isplitl [Ha] <;> iassumption

/-- A slot's two counters at zero become its two cells, -/
theorem open_slot (κ : GSem nD τ sig → ℕ) (c : Dev nD) (k : Fin 15) :
    iprop(records (A m) κ ∗ ((openTok ER (sendCell c k) ∗ openTok ER (recvCell c k)) ∗ exIdle (F := F) c k)) ⊢ (|={Set.univ}=> opened (F := F) c k : sProp 𝕄) := by
  unfold exIdle opened
  iintro ⟨#HR, ⟨HoS, HoV⟩, HvS, HvV⟩
  imod (Rounds.cell_open ER (RD (A m)) (g := sendCell c k) (Set.mem_univ (κ (sendCell c k)))) $$ [HoS HvS] with HS
  · isplitr; · iapply (inv_at (A m) κ (send_mem c k)); iexact HR
    isplitl [HoS] <;> iassumption
  imod (Rounds.cell_open ER (RD (A m)) (g := recvCell c k) (Set.mem_univ (κ (recvCell c k)))) $$ [HoV HvV] with HV
  · isplitr; · iapply (inv_at (A m) κ (recv_mem c k)); iexact HR
    isplitl [HoV] <;> iassumption
  imodintro
  isplitl [HS] <;> iassumption

/-- for all slots, -/
theorem open_slots (κ : GSem nD τ sig → ℕ) (c : Dev nD) :
    iprop(records (A m) κ ∗ (bigSep Finset.univ fun k => iprop(openTok ER (sendCell c k) ∗ openTok ER (recvCell c k))) ∗ bigSep Finset.univ (exIdle (F := F) c))
      ⊢ (|={Set.univ}=> bigSep Finset.univ (opened (F := F) c) : sProp 𝕄) := by
  rw [← bigSep_sep']
  exact (bigSep_with_persistent (R := records (A m) κ) fun k _ => open_slot m κ c k).trans (bigSep_fupd Finset.univ _)

/-- and each opened slot is what the body needs of it. -/
theorem opened_split (c : Dev nD) : bigSep Finset.univ (opened (F := F) c)
    ⊢ iprop((bigSep Finset.univ fun k => reached ER (recvCell c k) 0) ∗ (bigSep Finset.univ fun k => reached ER (sendCell c k) 0)
      ∗ bigSep Finset.univ fun k => iprop(atPos ER (sendCell c k) 0 ∅ 0 ∗ atPos ER (recvCell c k) 0 ∅ 0)) := by
  rw [← bigSep_sep', ← bigSep_sep']
  exact bigSep_mono fun k _ => opened_turn _ _ _ _

/-- Entering the region opens the exchange's cells. -/
theorem hopen (c : Dev nD) : iprop(Tk m c ∗ Pipeline.ownSems0 osem c ∗ levAts L lv) ⊢ (|={Set.univ}=> Xk m c : sProp 𝕄) := by
  have hex : iprop((bigSep Finset.univ fun k => iprop(dutyTok ER (sendCell c k) 0 0 ∗ dutyTok ER (recvCell (up c k) k) 0 0))
      ∗ bigSep Finset.univ fun k => reached ER (sendCell c k) 0) ⊢ bigSep Finset.univ (exRight (F := F) c) := by
    rw [← bigSep_sep']
    exact bigSep_mono fun k _ => pull _ _ _
  have hwt : iprop((bigSep Finset.univ fun k => iprop(atPos ER (sendCell c k) 0 ∅ 0 ∗ atPos ER (recvCell c k) 0 ∅ 0))
      ∗ bigSep Finset.univ fun k => cred (tallyAt (recvCell c k) () N)) ⊢ bigSep Finset.univ (waitRight (F := F) c) := by
    rw [← bigSep_sep']
    exact bigSep_mono fun k _ => pull _ _ _
  rw [ownSems_eq]
  unfold Tk Xk linear credit talk
  iintro ⟨⟨⟨%κ, #HR⟩, ⟨HatB, Hop, HtB, HtE⟩, HcB, HcV⟩, ⟨Hex, Hcp⟩, #Hlev⟩
  imod (open_slots m κ c) $$ [Hop Hex] with Ho
  · isplitr; · iexact HR
    isplitl [Hop] <;> iassumption
  ihave ⟨HrV, HrS, Hat⟩ := (opened_split c) $$ Ho
  imodintro
  isplitr; · iexists κ; iexact HR
  isplitr; · iexact Hlev
  isplitl [Hcp]; · iexact Hcp
  isplitl [HtB]; · iapply (Entails.of_eq (each_rising _)); iexact HtB
  isplitl [HcB]; · iexact HcB
  isplitl [HatB]; · iexact HatB
  isplitl [HrV]; · iapply (Entails.of_eq (each_rising _)); iexact HrV
  isplitl [HtE HrS]
  · iapply hex; isplitl [HtE] <;> iassumption
  iapply hwt; isplitl [Hat] <;> iassumption

/-! ## The region's proof data and body -/

/-- The body's own part of the region's state, before it and after it. -/
def inner (c : Dev nD) : sProp 𝕄 :=
  iprop(Xk m c ∗ scratch (F := F) c ∗ (∃ r, prngReg c r) ∗ StableHlo.held (c : Thread nD τ) hbm (V₁ m c))
/-- What the body is given besides its windows. -/
def outer (c : Dev nD) : sProp 𝕄 :=
  iprop(scratch (F := F) c ∗ (∃ r, prngReg c r) ∗ StableHlo.held (c : Thread nD τ) hbm (V₂ m c)
    ∗ (bigSep Finset.univ (exIdle (F := F) c) ∗ copiesIdle c) ∗ Yk c)

/-- Both windows' arrays at what the host operations left, and left in place; the device's dues paid by the one point. -/
def dat (c : Dev nD) : Dat τ (Elt F) Unit ℕ UU ℕ cfg0 c where
  A w := V₁ m c (Pipeline.arrRef spec0 w)
  after w _ := match w with
    | ⟨0, _⟩ => (A m c).rw
    | ⟨1, _⟩ => (A m c).oh
  Φ t := if t.val = 0 then inner m c else outer m c
  q _ := fullShare
  owed t := if t.val = 0 then O₀ c else 0

/-- The pipeline as it runs. -/
abbrev adm : (p : Fin 1) → (pcfgs (F := F) p).Adm := fun p => (cfgs p).toPCfg_adm
/-- What its proof uses at each step. -/
def pdats : (p : Fin 1) → (c : Dev nD) → Dat τ (Elt F) Unit ℕ UU ℕ (Pipeline.pin (pcfgs (F := F)) adm p) c
  | 0 => dat m

/-- A device owes everything at first, -/
theorem owed_zero (c : Dev nD) : (pdats m 0 c).owed 0 = O₀ c := by
  show (if ((0 : Fin (cfg0.N + 1)).val = 0) then O₀ c else 0) = O₀ c; exact if_pos rfl
/-- so before the only step, -/
theorem owed_first (c : Dev nD) : (dat m c).owed Gen.t0_0.castSucc = O₀ c := by
  show (if (Gen.t0_0.castSucc : Fin (cfg0.N + 1)).val = 0 then O₀ c else 0) = O₀ c; exact if_pos rfl
/-- and nothing at the end. -/
theorem owed_last (c : Dev nD) : (pdats m 0 c).owed (Fin.last _) = 0 := by
  show (if (Fin.last cfg0.N).val = 0 then O₀ c else 0) = 0
  rw [Fin.val_last, if_neg (by rw [show cfg0.N = 1 from Gen.N_0]; decide)]

/-- The position of a whole window. -/
theorem idx_val (i n : ℕ) : 0 * n + 1 * i = i := by omega
/-- The one block of window 0 is its whole array. -/
theorem before_rw (c : Dev nD) (d) : (dat m c).before 0 Gen.t0_0 d = (A m c).rw := by
  unfold Pipeline.Dat.before; rw [if_pos (by decide)]
  funext z
  exact congrArg (V₁ m c main_v1) (funext fun a => Fin.ext (by fin_cases a <;> exact idx_val _ _))
/-- The one block of window 1 is its whole array. -/
theorem before_oh (c : Dev nD) (d) : (dat m c).before 1 Gen.t0_0 d = (A m c).oh := by
  unfold Pipeline.Dat.before; rw [if_pos (by decide)]
  funext z
  exact congrArg (V₁ m c main_v7) (funext fun a => Fin.ext (by fin_cases a <;> exact idx_val _ _))

/-- Owning a whole buffer at some contents is holding it with these contents. -/
theorem owns_buf (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- The debt at a step is the debt named, -/
theorem owes_of_at (c : Dev nD) (t : Fin (cfg0.N + 1)) (O : CellTallies nD τ sig Unit) (h : (dat m c).owed t = O) :
    ((dat m c).owesAt () t : sProp 𝕄) ⊢ owing c O := by
  unfold Dat.owesAt Pipeline.owesWithin owing; rw [h]
  iintro ⟨%W, -, HO⟩; iexists W; iexact HO
/-- and the other way round. -/
theorem at_of_owes (c : Dev nD) (t : Fin (cfg0.N + 1)) (O : CellTallies nD τ sig Unit) (h : (dat m c).owed t = O) :
    (owing c O : sProp 𝕄) ⊢ (dat m c).owesAt () t := by
  unfold Dat.owesAt Pipeline.owesWithin Dat.bound owing; rw [h]
  iintro ⟨%W, HO⟩; iexists W; isplitr; · ipureintro; exact fun _ _ => Or.inl trivial
  iexact HO

/-- Reading the device's number is a step of its own that changes nothing. -/
theorem run_deviceId (c : Dev nD) (k : Dev nD → Code F PUnit) (K : PUnit → sProp 𝕄) :
    run c (do let d : Dev nD ← Prog.lift .deviceId; k d) K = run c (k c) K := wp_deviceId 𝒱₀ (c : Thread nD τ) none Set.univ

/-- The printed body of the region's one point, from what it needs to what it leaves. -/
theorem point_run (κ : GSem nD τ sig → ℕ) (c : Dev nD) (K : PUnit → sProp 𝕄) :
    iprop(records (A m) κ ∗ levAts L lv ∗ bodyPre (A m) c ∗ (bodyPost (A m) c -∗ K ⟨⟩))
      ⊢ run c (Gen.bodyAt0 (F := F) Gen.t0_0) K := by
  exact (body_run (A m) κ c K).trans (Entails.of_eq ((congrArg (fun p => run c p K) body_eq).trans (run_deviceId c flow K)).symm)

set_option maxRecDepth 4000 in
/-- The library's body obligation on core `c`: the two staging buffers taken apart, `point_run` applied. -/
theorem body_obligation (c : Dev nD) : BodyObligation (dat m c) (defs₀ (F := F)) 𝒱₀ () Set.univ := fun t => by
  obtain rfl := Gen.fin_N0 t
  rw [Gen.bigSep_W0, Gen.bigSep_W0]
  simp only [owns_buf]
  rw [show (dat m c).Φ Gen.t0_0.castSucc = inner m c from rfl, show (dat m c).Φ Gen.t0_0.succ = outer m c from rfl]
  unfold inner outer Xk Yk
  rw [hbm_held, hbm_held]
  iintro ⟨⟨⟨⟨%κ, HR⟩, Hlev, Hcp, Htalk⟩, Hscr, Hreg, H0, H3, H4, H8⟩, HO, ⟨%d0, %f0, %hf0, Hs0⟩, ⟨%d1, %f1, %hf1, Hs1⟩⟩
  rw [before_rw] at hf0
  rw [before_oh] at hf1
  subst hf0
  subst hf1
  ihave HO' := (owes_of_at m c _ (O₀ c) (owed_first m c)) $$ HO
  iapply (point_run m κ c _)
  isplitl [HR]; · iexact HR
  isplitl [Hlev]; · iexact Hlev
  isplitl [H0 H3 H4 H8 Hs0 Hs1 Hscr Hcp Htalk HO']
  · unfold bodyPre argsPts
    isplitl [H0 H3 H4 Hs0 Hs1]
    · isplitl [H0]; · iexact H0
      isplitl [H3]; · iexact H3
      isplitl [H4]; · iexact H4
      isplitl [Hs0]; · iexact Hs0
      iexact Hs1
    isplitl [H8]; · iexists _; iexact H8
    isplitl [Hscr]; · iexact Hscr
    isplitl [Hcp]; · iexact Hcp
    isplitl [Htalk]; · iexact Htalk
    iexact HO'
  unfold bodyPost argsPts
  iintro ⟨⟨H0, H3, H4, Hs0, Hs1⟩, H8, Hscr, Hcp, ⟨Hb, Hex⟩, HO⟩
  isplitl [H0 H3 H4 H8 Hscr Hreg Hcp Hb Hex]
  · isplitl [Hscr]; · iexact Hscr
    isplitl [Hreg]; · iexact Hreg
    isplitl [H0 H3 H4 H8]
    · rw [V₂_res, V₂_of_ne m c (b := main_arg0) (by decide), V₂_of_ne m c (b := main_arg3) (by decide), V₂_of_ne m c (b := main_arg4) (by decide)]
      isplitl [H0]; · iexact H0
      isplitl [H3]; · iexact H3
      isplitl [H4]; · iexact H4
      iexact H8
    isplitl [Hex Hcp]
    · isplitl [Hex]; · iexact Hex
      iexact Hcp
    iexact Hb
  isplitl [HO]; · iapply (at_of_owes m c _ 0 rfl); iexact HO
  isplitl [Hs0]
  · iexists _; isplitr; swap; (· iexact Hs0); ipureintro; rfl
  iexists _; isplitr; swap; (· iexact Hs1); ipureintro; rfl

/-- The scratch buffers that the region brings, one by one. -/
theorem scopedRest_eq (c : Dev nD) :
    (Pipeline.scopedRest (Ix := Unit) (Name := ℕ) (U := UU) (Lvl := ℕ) (Val := Elt F) (Pipeline.pin (pcfgs (F := F)) adm 0).spec c : sProp 𝕄) = scratch c :=
  Gen.scopedRest0_eq c

/-- What enters the region is what the body starts with, -/
theorem hin (c : Dev nD) : iprop(Pipeline.scopedRest (Pipeline.pin (pcfgs (F := F)) adm 0).spec c ∗ (∃ r, prngReg c r) ∗ StableHlo.held (c.tc : Thread nD τ) hbm (V₁ m c) ∗ Xk m c)
    ⊢ (pdats m 0 c).Φ 0 := by
  rw [show (pdats m 0 c).Φ 0 = inner m c from rfl, scopedRest_eq]
  unfold inner
  iintro ⟨Hs, Hp, Hh, HX⟩
  isplitl [HX]; · iexact HX
  isplitl [Hs]; · iexact Hs
  isplitl [Hp] <;> iassumption

/-- and what the body ends with is what leaves it. -/
theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) hbm (V₂ m c)
      ∗ Pipeline.ownSems0 osem c ∗ Yk c) := by
  rw [show (pdats m 0 c).Φ (Fin.last _) = outer m c from rfl, scopedRest_eq, ownSems_eq]
  exact Entails.refl _

/-- What is owed takes part in the exchange and lies above level 0. -/
theorem cutD (c : Dev nD) (t : Fin ((Pipeline.pin (pcfgs (F := F)) adm 0).N + 1)) (g : GSem nD τ sig) (i : Unit) (h : 0 < (pdats (F := F) m 0 c).owed t g i) :
    i ∈ L g ∧ (0 : ℕ) < lv g i := by
  have e : (pdats (F := F) m 0 c).owed t = if t.val = 0 then O₀ c else 0 := rfl
  rw [e] at h
  split at h
  · rcases oweB_pos h with ⟨k, rfl⟩ | ⟨k, rfl⟩
    · exact ⟨by rw [L_tc]; exact Finset.mem_singleton_self _, by rw [lv_recv]; decide⟩
    · exact ⟨by rw [L_tc]; exact Finset.mem_singleton_self _, by rw [lv_bar]; decide⟩
  · exact absurd h (Nat.lt_irrefl 0)

/-! ## @main as segments -/

/-- What rides along the host operations: the exchange's rights, the generator register, the dues. -/
def R (c : Dev nD) : sProp 𝕄 := iprop(Tk m c ∗ (∃ r, prngReg c r) ∗ owing c (O₀ c))

/-- The host operations touch known buffers only, -/
theorem ops_sub : ∀ op ∈ (Gen.hostOps0 (F := F)), op.bufs ⊆ bufs := fun op h =>
  Pipeline.sub_ucRefs op (List.forall_iff_forall_mem.mp Gen.hostOps0_sub op h)
/-- and make no new one. -/
theorem ops_fresh : ∀ op ∈ (Gen.hostOps0 (F := F)), op.fresh = ∅ := List.forall_iff_forall_mem.mp Gen.hostOps0_fresh

/-- The host operations as a segment of the run. -/
def seg0 : Pipeline.HostSeg (Name := ℕ) (U := UU) (pcfgs (F := F)) defs₀ 𝒱₀ L lv :=
  Pipeline.HostSeg.ofOps _ _ _ _ _ bufs Gen.hostOps0 ops_sub ops_fresh (V₀ m) (R m)

set_option backward.isDefEq.respectTransparency.types false in
def reg0 : Pipeline.RegionSeg (pcfgs (F := F)) adm (pdats m) () defs₀ 𝒱₀ L lv 0 :=
  Pipeline.RegionSeg.ofTalk (pcfgs (F := F)) adm (pdats m) () defs₀ 𝒱₀ L lv 0 osem osem_facts
    hbm (bufs \ arrs) hbm_sub Gen.launch0.toP rfl (fun c => (body_obligation m c).loose)
    (fun _ => 0) O₀ (fun c => (owed_zero m c).trans (zero_add _).symm) (owed_last m) (fun _ => rfl)
    (fun c => (pdats m 0 c).share_full fun _ => rfl)
    (V₁ m) (V₂ m) (fun c b hb => V₂_of_ne m c fun h => (Finset.mem_sdiff.mp hb).2 (by rw [h]; decide))
    (Tk m) Yk (Xk m) Yk (hopen m) (hin m) (hout m)
    (fun c => by iintro H; imodintro; iexact H)
    (fun _ => 0)
    ⟨fun c w s => by rw [L_tc]; exact Finset.mem_singleton_self _, fun c w s => by fin_cases w <;> fin_cases s <;> exact Nat.le_of_eq rfl, fun c t g i h => cutD m c t g i h⟩
    (fun _ => iprop(emp))
    (fun c w => ((pdats m 0 c).arrAt_in w (by fin_cases w <;> rfl) 0)) fun c w => by
      rw [(pdats m 0 c).arrAt_in w (by fin_cases w <;> rfl) _]
      exact (V₂_of_ne m c (arr_ne w)).symm

end Cert.KernelIdeal.Ring
-- ==== Proof.Launch.lean ====
/-
  The launch of the exchange, and the run of @main on sixteen devices.

  Every cell's invariant is allocated at the launch, the departure and arrival cells dormant (the region opens them), and
  every duty's token is handed to the device that pays it. `run_main` is the run over any float values: every weakly
  fair execution terminates, the arguments are unchanged, the result is `resOf`, and every counter is at zero.
-/
module

public import proofs.«01_k».proof.Proof.Region

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The dues of all devices, cell by cell -/

theorem oweR_range (c : Dev nD) : ∀ n, oweR c n = ∑ i ∈ Finset.range n, if h : i < 15 then tallyAt (recvCell (up c ⟨i, h⟩) ⟨i, h⟩) () N else 0
  | 0 => rfl
  | n + 1 => by rw [Finset.sum_range_succ, ← oweR_range c n]; rfl
/-- What a device owes, counted cell by cell. -/
theorem oweB_range (c : Dev nD) : ∀ n, oweB c n
    = oweR c 15 + ∑ i ∈ Finset.range n, if _h : i < 15 then tallyAt (barCell (dn c ⟨14 - i, by omega⟩)) () 1 else 0
  | 0 => (add_zero _).symm
  | n + 1 => by rw [Finset.sum_range_succ, ← add_assoc, ← oweB_range c n]; rfl

/-- A device's dues: one copy on each of fifteen arrivals, one unit on each of fifteen barriers. -/
theorem O₀_eq (c : Dev nD) : O₀ c = (∑ k : Fin 15, tallyAt (recvCell (up c k) k) () N) + ∑ k : Fin 15, tallyAt (barCell (dn c k)) () 1 := by
  unfold O₀
  rw [oweB_range, oweR_range, Finset.sum_range, Finset.sum_range, ← Equiv.sum_comp Fin.revPerm fun k : Fin 15 => (tallyAt (barCell (dn c k)) () 1 : CellTallies nD τ sig Unit)]
  refine congrArg₂ _ (Finset.sum_congr rfl fun k _ => dif_pos k.isLt) (Finset.sum_congr rfl fun k _ => ?_)
  rw [dif_pos k.isLt]
  exact congrArg (fun j => (tallyAt (barCell (dn c j)) () 1 : CellTallies nD τ sig Unit)) (Fin.ext (by rw [Fin.revPerm_apply, Fin.val_rev]; show 14 - k.val = _; omega))

/-- What a device owes at first to each cell. -/
theorem O₀_at (c : Dev nD) (g : GSem nD τ sig) : O₀ c g ()
    = (∑ k : Fin 15, if g = recvCell (up c k) k then N else 0) + ∑ k : Fin 15, if g = barCell (dn c k) then 1 else 0 := by
  rw [O₀_eq, Pi.add_apply, Finsupp.add_apply, Finset.sum_apply, Finset.sum_apply, Finsupp.finset_sum_apply, Finsupp.finset_sum_apply]
  refine congrArg₂ _ (Finset.sum_congr rfl fun k _ => ?_) (Finset.sum_congr rfl fun k _ => ?_)
  · rw [tallyAt_apply]; exact if_congr (and_iff_left rfl) rfl rfl
  · rw [tallyAt_apply]; exact if_congr (and_iff_left rfl) rfl rfl

/-- Which device pays which duty of a barrier, -/
theorem bar_dn (c d : Dev nD) (k : Fin 15) : barCell c = barCell (dn d k) ↔ d = up c k :=
  ⟨fun h => by rw [show c = dn d k from congrArg (fun g : GSem nD τ sig => g.1.1) h, up_dn], fun h => by rw [h, dn_up]⟩
/-- and which pays which arrival. -/
theorem recv_up (c d : Dev nD) (k j : Fin 15) : recvCell c k = recvCell (up d j) j ↔ j = k ∧ d = dn c k := by
  constructor
  · intro h
    have hk : j = k := (recvS_inj (SemLoc.dma.inj (congrArg Prod.snd h))).symm
    subst hk
    exact ⟨rfl, by rw [show c = up d j from congrArg (fun g : GSem nD τ sig => g.1.1) h, dn_up]⟩
  · rintro ⟨rfl, rfl⟩; rw [up_dn]

/-- All devices together owe a barrier fifteen units. -/
theorem owed_bar (c : Dev nD) : (∑ d : Dev nD, O₀ d (barCell c) ()) = 15 := by
  have h (d : Dev nD) : O₀ d (barCell c) () = ∑ k : Fin 15, if d = up c k then 1 else 0 := by
    rw [O₀_at, Finset.sum_eq_zero fun k _ => if_neg fun h => recv_ne_bar k (congrArg Prod.snd h).symm, Nat.zero_add]
    exact Finset.sum_congr rfl fun k _ => if_congr (bar_dn c d k) rfl rfl
  rw [Finset.sum_congr rfl fun d _ => h d, Finset.sum_comm, Finset.sum_congr rfl fun k _ => Finset.sum_ite_eq' Finset.univ (up c k) fun _ => 1]
  simp

/-- All devices together owe an arrival one copy. -/
theorem owed_recv (c : Dev nD) (k : Fin 15) : (∑ d : Dev nD, O₀ d (recvCell c k) ()) = N := by
  have h (d : Dev nD) : O₀ d (recvCell c k) () = if d = dn c k then N else 0 := by
    rw [O₀_at, Finset.sum_eq_zero (s := Finset.univ) (f := fun j : Fin 15 => if recvCell c k = barCell (dn d j) then 1 else 0)
      fun j _ => if_neg fun h => recv_ne_bar k (congrArg Prod.snd h), Nat.add_zero,
      Finset.sum_eq_single k (fun j _ hj => if_neg fun h => hj ((recv_up c d k j).mp h).1) (fun h => absurd (Finset.mem_univ _) h)]
    exact if_congr ((recv_up c d k k).trans (and_iff_right rfl)) rfl rfl
  rw [Finset.sum_congr rfl fun d _ => h d, Finset.sum_ite_eq' Finset.univ (dn c k) fun _ => N, if_pos (Finset.mem_univ _)]

/-- All devices together owe a barrier its fifteen units, -/
theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same, owed_bar]
/-- and an arrival its one copy. -/
theorem launch_recv (c : Dev nD) (k : Fin 15) :
    tallyOn (recvCell c k) (launchCredit (Pipeline.owing O₀) 0 (recvCell c k)) = (tallyAt (recvCell c k) () N : CellTallies nD τ sig Unit) := by
  unfold tallyAt; refine congrArg _ (Finsupp.ext fun u => ?_); cases u
  rw [Pipeline.launchCredit_owing, Finsupp.single_eq_same, owed_recv]

/-- The arrival counters, without repetition. -/
def recvEmb : Fin 15 ↪ SemLoc sig := ⟨fun k => .dma (recvS k), fun _ _ h => recvS_inj (SemLoc.dma.inj h)⟩

/-- A device's launch credit holds its barrier's fifteen units and each arrival's one copy. -/
theorem creds (c : Dev nD) : (Pipeline.launchCred O₀ c : sProp 𝕄) ⊢ credit (F := F) c := by
  unfold Pipeline.launchCred credit
  rw [bigSep_univ_at _ (SemLoc.reg barS), launch_bar]
  refine sep_mono_right ((bigSep_subset (t := Finset.univ.map recvEmb) fun x hx => ?_).trans ?_)
  · obtain ⟨k, -, rfl⟩ := Finset.mem_map.mp hx
    exact Finset.mem_erase.mpr ⟨recv_ne_bar k, Finset.mem_univ _⟩
  · rw [bigSep_map]
    exact bigSep_mono fun k _ => Entails.of_eq (congrArg cred (launch_recv c k))

/-! ## Tokens -/

/-- Every duty of the exchange: a device's fifteen barrier units, its fifteen departures, its fifteen arrivals. -/
def tokOf (c : Dev nD) : Fin 15 ⊕ (Fin 15 ⊕ Fin 15) → GSem nD τ sig × ℕ × Fin 15
  | .inl k => (barCell c, 0, k)
  | .inr (.inl k) => (sendCell c k, 0, 0)
  | .inr (.inr k) => (recvCell c k, 0, 0)
/-- A duty's token is about its own device's cell, -/
theorem tokOf_dev (c : Dev nD) (x : Fin 15 ⊕ (Fin 15 ⊕ Fin 15)) : (tokOf c x).1.1.1 = c := by rcases x with k | k | k <;> rfl
/-- tokens differ, -/
theorem tokOf_inj (c : Dev nD) : Function.Injective (tokOf c) := by
  have hsr : ∀ k j : Fin 15, sendS k ≠ recvS j := by decide
  rintro (k | k | k) (j | j | j) h
  · exact congrArg Sum.inl (congrArg (fun t : GSem nD τ sig × ℕ × Fin 15 => t.2.2) h)
  · exact absurd (congrArg (fun t : GSem nD τ sig × ℕ × Fin 15 => t.1.2) h).symm (send_ne_bar j)
  · exact absurd (congrArg (fun t : GSem nD τ sig × ℕ × Fin 15 => t.1.2) h).symm (recv_ne_bar j)
  · exact absurd (congrArg (fun t : GSem nD τ sig × ℕ × Fin 15 => t.1.2) h) (send_ne_bar k)
  · exact congrArg (Sum.inr ∘ Sum.inl) (sendS_inj (SemLoc.dma.inj (congrArg (fun t : GSem nD τ sig × ℕ × Fin 15 => t.1.2) h)))
  · exact absurd (SemLoc.dma.inj (congrArg (fun t : GSem nD τ sig × ℕ × Fin 15 => t.1.2) h)) (hsr k j)
  · exact absurd (congrArg (fun t : GSem nD τ sig × ℕ × Fin 15 => t.1.2) h) (recv_ne_bar k)
  · exact absurd (SemLoc.dma.inj (congrArg (fun t : GSem nD τ sig × ℕ × Fin 15 => t.1.2) h)).symm (hsr j k)
  · exact congrArg (Sum.inr ∘ Sum.inr) (recvS_inj (SemLoc.dma.inj (congrArg (fun t : GSem nD τ sig × ℕ × Fin 15 => t.1.2) h)))
/-- over all devices too, -/
def tokEmb : Dev nD × (Fin 15 ⊕ (Fin 15 ⊕ Fin 15)) ↪ GSem nD τ sig × ℕ × Fin 15 :=
  ⟨fun p => tokOf p.1 p.2, fun p q h => by
    obtain ⟨c, x⟩ := p; obtain ⟨d, y⟩ := q
    have hd : c = d := by rw [← tokOf_dev c x, ← tokOf_dev d y]; exact congrArg (fun t : GSem nD τ sig × ℕ × Fin 15 => t.1.1.1) h
    subst hd
    exact congrArg _ (tokOf_inj c h)⟩
/-- and make up this set. -/
abbrev allToks : Finset (GSem nD τ sig × ℕ × Fin 15) := Finset.univ.map tokEmb

/-- Barrier cells are not exchange cells. -/
theorem disjoint_cells : Disjoint (barCells : Finset (GSem nD τ sig)) exCells := by
  rw [Finset.disjoint_left]
  rintro g h₁ h₂
  obtain ⟨c, -, rfl⟩ := Finset.mem_map.mp h₁
  obtain ⟨p, -, h⟩ := Finset.mem_map.mp h₂
  have := congrArg Prod.snd h
  cases this

/-- A family over the devices and slots may be read round the ring, slot by slot. -/
theorem around (Φ : Dev nD → Fin 15 → sProp 𝕄) (e : Fin 15 → Dev nD ≃ Dev nD) :
    (bigSep Finset.univ fun c => bigSep Finset.univ fun k => Φ c k) = bigSep Finset.univ fun c => bigSep Finset.univ fun k => Φ (e k c) k := by
  rw [bigSep_univ_comm, bigSep_univ_comm fun c k => Φ (e k c) k]
  exact bigSep_congr fun k _ => bigSep_univ_equiv (e k) fun c => Φ c k

/-- The tokens as their payers hold them. -/
theorem toks_dealt : bigSep allToks (fun x => (dutyTok ER x.1 x.2.1 x.2.2 : sProp 𝕄))
    = bigSep Finset.univ fun c : Dev nD => iprop((bigSep Finset.univ fun k => dutyTok ER (barCell (dn c k)) 0 k)
        ∗ (bigSep Finset.univ fun k => iprop(dutyTok ER (sendCell c k) 0 0 ∗ dutyTok ER (recvCell (up c k) k) 0 0))) := by
  unfold allToks
  rw [bigSep_map, bigSep_univ_prod, bigSep_congr (Ψ := fun c : Dev nD => iprop((bigSep Finset.univ fun k => dutyTok ER (barCell c) 0 k)
        ∗ ((bigSep Finset.univ fun k => dutyTok ER (sendCell c k) 0 0) ∗ bigSep Finset.univ fun k => dutyTok ER (recvCell c k) 0 0)))
      fun c _ => by rw [bigSep_univ_sum, bigSep_univ_sum]; rfl,
    bigSep_sep', bigSep_sep', around (fun c k => dutyTok ER (barCell c) 0 k) ring,
    around (fun c k => dutyTok ER (recvCell c k) 0 0) fun k => (ring k).symm, ← bigSep_sep', ← bigSep_sep']
  exact bigSep_congr fun c _ => congrArg (fun X => iprop((bigSep Finset.univ fun k => dutyTok ER (barCell (dn c k)) 0 k) ∗ X)) (bigSep_sep' ..).symm

/-! ## The launch's global step -/

/-- The exchange's launch element, and the whole one beside the pipeline's. -/
abbrev launchU : URounds (GSem nD τ sig) (Fin 15) := launchOf barCells exCells allToks
/-- The resources at launch. -/
def u₀ : UU :=
  (initOf (Pipeline.cells (Pipeline.pin (pcfgs (F := F)) adm) Gen.cellOf_inj) (Pipeline.launchToks (Pipeline.pin (pcfgs (F := F)) adm) Gen.cellOf_inj),
    (launchU, 1))

/-- They are the pipeline's and the rounds', -/
theorem ownU_split (a : UR sig nD τ) (b : URounds (GSem nD τ sig) (Fin 15)) :
    (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

/-- The exchange's launch element kept whole on device 0 until the global step. -/
def parked (c : Dev nD) : sProp 𝕄 := if c = 0 then BI.own (ER launchU) else iprop(emp)
/-- and the rounds' are handed to one device to start with. -/
theorem parked_eq : bigSep Finset.univ (parked (F := F)) = BI.own (ER launchU) := by
  rw [bigSep_univ_at _ (0 : Dev nD), bigSep_congr (s := Finset.univ.erase (0 : Dev nD)) (Ψ := fun _ => (BI.emp : sProp 𝕄))
      fun c hc => by unfold parked; rw [if_neg (Finset.ne_of_mem_erase hc)]; rfl, BI.bigSep_emp_const]
  unfold parked; rw [if_pos rfl]
  exact BI.equiv_iff.mp BI.sep_emp

variable (m : (ℓ : Loc nD τ sig) → Buf (Elt F) ℓ) (ρ : Dev nD → PrngReg)

/-- What @main starts from on device `c`, and what it ends with. -/
abbrev T₀ (c : Dev nD) : sProp 𝕄 := iprop(StableHlo.held (c : Thread nD τ) bufs (V₀ m c) ∗ R m c)
/-- What a device has at the end. -/
abbrev Tₙ (c : Dev nD) : sProp 𝕄 := iprop(StableHlo.held (c : Thread nD τ) bufs (V₂ m c) ∗ Yk (F := F) c)

/-- What a device launches with beside the exchange's ghost state. -/
def bundle (c : Dev nD) : sProp 𝕄 :=
  iprop(StableHlo.held (c : Thread nD τ) bufs (V₀ m c) ∗ credit (F := F) c ∗ owes (c : Thread nD τ) (O₀ c) ∅ ∗ ∃ r, prngReg c r)

/-- What a device starts with. -/
theorem T₀_intro (κ : GSem nD τ sig → ℕ) (c : Dev nD) : iprop(records (A m) κ ∗ (linear (F := F) c ∗ bundle m c)) ⊢ T₀ m c := by
  unfold bundle T₀ R Tk owing
  iintro ⟨#HR, Hl, Hh, Hc, HO, Hp⟩
  isplitl [Hh]; · iexact Hh
  isplitl [Hl Hc]
  · isplitr; · iexists κ; iexact HR
    isplitl [Hl]; · iexact Hl
    iexact Hc
  isplitl [Hp]; · iexact Hp
  iexists ∅; iexact HO

/-- The only counter outside the region is the barrier's. -/
theorem unscopedSems_eq (c : Dev nD) : (unscopedSems0 c : sProp 𝕄) = semVal (barCell c) 0 := by
  unfold unscopedSems0
  rw [show (Finset.univ.filter fun sm : SemLoc sig => ¬ sm.isScoped .tc = true) = {SemLoc.reg barS} from by decide, BI.bigSep_singleton]

/-- The library's per-device launch holdings, regrouped. -/
def given (c : Dev nD) : sProp 𝕄 :=
  iprop(unscopedBufs c (fun b => m ((c : Thread nD τ).loc b)) ∗ unscopedSems0 c
    ∗ owes (c : Thread nD τ) (O₀ c) ∅ ∗ Pipeline.launchCred O₀ c ∗ prngReg c (ρ c) ∗ parked c)
/-- What a device is given at launch, sorted. -/
theorem given_split (c : Dev nD) : given m ρ c ⊢ iprop(bundle m c ∗ (semVal (barCell c) 0 ∗ parked c)) := by
  unfold given
  rw [show unscopedBufs c (fun b => m ((c : Thread nD τ).loc b)) = StableHlo.held (c : Thread nD τ) bufs (V₀ m c) from Pipeline.unscopedBufs_held c (V₀ m c),
    unscopedSems_eq]
  unfold bundle
  iintro ⟨Hh, Hus, HO, Hcr, Hp, HG⟩
  ihave Hc := (creds (F := F) c) $$ Hcr
  isplitl [Hh Hc HO Hp]
  · isplitl [Hh]; · iexact Hh
    isplitl [Hc]; · iexact Hc
    isplitl [HO]; · iexact HO
    iexists (ρ c); iexact Hp
  isplitl [Hus] <;> iassumption

/-- The exchange's rights, regrouped by device. -/
theorem linear_intro : iprop((bigSep barCells fun g => atPos ER g 0 ∅ 0) ∗ (bigSep exCells fun g => openTok ER g)
      ∗ bigSep allToks fun x => dutyTok ER x.1 x.2.1 x.2.2) ⊢ bigSep Finset.univ (linear (F := F)) := by
  have ho : (bigSep exCells fun g => (openTok ER g : sProp 𝕄))
      = bigSep Finset.univ fun c : Dev nD => bigSep Finset.univ fun k => iprop(openTok ER (sendCell c k) ∗ openTok ER (recvCell c k)) := by
    rw [bigSep_map, bigSep_univ_prod]
    exact bigSep_congr fun c _ => by rw [bigSep_univ_sum, bigSep_sep']; rfl
  rw [ho, bigSep_map, toks_dealt, ← bigSep_sep', ← bigSep_sep']
  exact Entails.refl _

/-- Two products over the devices are one of pairs, -/
theorem pair (Φ Ψ : Dev nD → sProp 𝕄) : iprop(bigSep Finset.univ Φ ∗ bigSep Finset.univ Ψ) ⊢ bigSep Finset.univ fun c => iprop(Φ c ∗ Ψ c) :=
  Entails.of_eq (bigSep_sep' ..).symm
/-- and the other way round. -/
theorem unpair {Φ Ψ : Dev nD → sProp 𝕄} : (bigSep Finset.univ fun c => iprop(Φ c ∗ Ψ c)) ⊢ iprop(bigSep Finset.univ Φ ∗ bigSep Finset.univ Ψ) :=
  Entails.of_eq (bigSep_sep' ..)

/-- Every cell's invariant allocated, and every device given what it starts from. -/
theorem init : iprop((bigSep Finset.univ (given m ρ)) ∗ levAts L lv) ⊢ (|={Set.univ}=> bigSep Finset.univ (T₀ m) : sProp 𝕄) := by
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hg : bigSep Finset.univ (given m ρ) ⊢ bigSep Finset.univ fun c : Dev nD => iprop(bundle m c ∗ (semVal (barCell c) 0 ∗ parked c)) :=
    bigSep_mono fun c _ => given_split m ρ c
  iintro ⟨H, -⟩
  ihave H' := hg $$ H
  ihave H2 := unpair $$ H'; icases H2 with ⟨HB, H3⟩
  ihave H4 := unpair $$ H3; icases H4 with ⟨Hv, HG⟩
  ihave Hu := (Entails.of_eq (parked_eq (F := F))) $$ HG
  imod (Rounds.fund_launch ER (RD (A m)) disjoint_cells (fun g _ h => h) allToks) $$ [Hv Hu] with ⟨%κ, -, #Hinv, #Hr, Hat, Hopen, Htok⟩
  · isplitl [Hv]
    · iapply hv $$ Hv
    · iexact Hu
  imodintro
  iapply (bigSep_with_persistent (R := records (A m) κ) (Φ := fun c => iprop(linear (F := F) c ∗ bundle m c)) fun c _ => T₀_intro m κ c)
  isplitr
  · unfold records
    isplitr; · iexact Hinv
    iexact Hr
  iapply pair
  isplitr [HB]
  · iapply linear_intro
    isplitl [Hat]; · iexact Hat
    isplitl [Hopen]; · iexact Hopen
    iexact Htok
  · iexact HB

/-! ## The run -/

theorem reg0_pre (c : Dev nD) : iprop(StableHlo.held (c : Thread nD τ) bufs (V₁ m c) ∗ R m c) ⊢ (reg0 m).pre c := by
  show _ ⊢ iprop(StableHlo.held (c.tc : Thread nD τ) arrs (V₁ m c) ∗ (∃ r, prngReg c r)
    ∗ (StableHlo.held (c.tc : Thread nD τ) (bufs \ arrs) (V₁ m c) ∗ emp) ∗ Tk m c ∗ ∃ Wd, owes (c : Thread nD τ) (0 + O₀ c) Wd)
  rw [StableHlo.held_sub_split (c : Thread nD τ) arrs_sub (V₁ m c), zero_add]
  unfold R owing
  iintro ⟨⟨Ha, Hb⟩, HT, Hp, HO⟩
  isplitl [Ha]; · iexact Ha
  isplitl [Hp]; · iexact Hp
  isplitl [Hb]
  · isplitl [Hb]; · iexact Hb
    iempintro
  isplitl [HT]; · iexact HT
  iexact HO

/-- What leaves the region is what a device has at the end. -/
theorem reg0_post (c : Dev nD) : (reg0 m).post c ⊢ iprop(Tₙ m c ∗ ∃ W, owes (c : Thread nD τ) (0 : CellTallies nD τ sig Unit) W) := by
  show iprop(StableHlo.held (c.tc : Thread nD τ) arrs (V₂ m c) ∗ (∃ r, prngReg c r)
    ∗ (StableHlo.held (c.tc : Thread nD τ) (bufs \ arrs) (V₂ m c) ∗ emp) ∗ Yk c ∗ ∃ Wd, owes (c : Thread nD τ) (0 : CellTallies nD τ sig Unit) Wd) ⊢ _
  unfold Tₙ
  rw [StableHlo.held_sub_split (c : Thread nD τ) arrs_sub (V₂ m c)]
  iintro ⟨Ha, -, ⟨Hb, -⟩, HY, HO⟩
  isplitr [HO]
  · isplitr [HY]
    · isplitl [Ha]; · iexact Ha
      iexact Hb
    · iexact HY
  · iexact HO

/-- @main as the list of its segments. -/
def segs : List (Pipeline.Seg (pcfgs (F := F)) adm (pdats m) () defs₀ 𝒱₀ L lv) := [.host (seg0 m), .region (reg0 m)]
/-- The program is the host operations and the region. -/
theorem main_eq (c : Dev nD) : main (F := F) c = Pipeline.Seg.run (segs m) :=
  Gen.main_segs adm (pdats m) () 𝒱₀ L lv (seg0 m) (reg0 m) rfl c

/-- The buffers the claims speak of: the five arguments and the result. -/
def seen : Finset (DevRef τ sig) := {Proc.devRef .tc main_arg0, Proc.devRef .tc main_arg1, Proc.devRef .tc main_arg2, Proc.devRef .tc main_arg3, Proc.devRef .tc main_arg4, Proc.devRef .tc main_v8}
/-- The arguments and the result are among the buffers. -/
theorem seen_sub : seen ⊆ bufs := by decide
/-- They are, one by one: -/
theorem seen_held (c : Dev nD) (W : Valuation τ sig (Elt F)) : (StableHlo.held (c : Thread nD τ) seen W : sProp 𝕄)
    = iprop(buf c main_arg0 (W main_arg0) ∗ buf c main_arg1 (W main_arg1) ∗ buf c main_arg2 (W main_arg2) ∗ buf c main_arg3 (W main_arg3)
      ∗ buf c main_arg4 (W main_arg4) ∗ buf c main_v8 (W main_v8)) := by
  unfold StableHlo.held seen
  rw [bigSep_eq_bigSepL_of_eq [Proc.devRef .tc main_arg0, Proc.devRef .tc main_arg1, Proc.devRef .tc main_arg2, Proc.devRef .tc main_arg3, Proc.devRef .tc main_arg4, Proc.devRef .tc main_v8] (by decide) (by decide)]
  rfl

/-- The barrier's counter is the only one outside. -/
theorem unscoped_eq : ∀ sm : SemLoc sig, sm.isScoped .tc = false → sm = .reg barS := by decide

/-- The arguments are unchanged: the tokens, -/
theorem V₂_arg0 (c : Dev nD) : V₂ m c main_arg0 = m ((c : Thread nD τ).loc main_arg0) := (V₂_of_ne m c (by decide)).trans (Gen.V_main_arg0 m c)
/-- the router's matrix, -/
theorem V₂_arg1 (c : Dev nD) : V₂ m c main_arg1 = m ((c : Thread nD τ).loc main_arg1) := (V₂_of_ne m c (by decide)).trans (Gen.V_main_arg1 m c)
/-- the routes, -/
theorem V₂_arg2 (c : Dev nD) : V₂ m c main_arg2 = m ((c : Thread nD τ).loc main_arg2) := (V₂_of_ne m c (by decide)).trans (Gen.V_main_arg2 m c)
/-- the experts, -/
theorem V₂_arg3 (c : Dev nD) : V₂ m c main_arg3 = m ((c : Thread nD τ).loc main_arg3) := (V₂_of_ne m c (by decide)).trans (Gen.V_main_arg3 m c)
/-- and the shared matrix. -/
theorem V₂_arg4 (c : Dev nD) : V₂ m c main_arg4 = m ((c : Thread nD τ).loc main_arg4) := (V₂_of_ne m c (by decide)).trans (Gen.V_main_arg4 m c)

/-- What a final memory holds on device `c`. -/
abbrev Final (c : Dev nD) (mem : (ℓ : Loc nD τ sig) → Buf (Elt F) ℓ) : Prop :=
  (mem ((c : Thread nD τ).loc main_arg0) = m ((c : Thread nD τ).loc main_arg0)
    ∧ mem ((c : Thread nD τ).loc main_arg1) = m ((c : Thread nD τ).loc main_arg1)
    ∧ mem ((c : Thread nD τ).loc main_arg2) = m ((c : Thread nD τ).loc main_arg2)
    ∧ mem ((c : Thread nD τ).loc main_arg3) = m ((c : Thread nD τ).loc main_arg3)
    ∧ mem ((c : Thread nD τ).loc main_arg4) = m ((c : Thread nD τ).loc main_arg4))
  ∧ mem ((c : Thread nD τ).loc main_v8) = resOf (A m) c

set_option backward.isDefEq.respectTransparency.types false in
/-- The run: from any memory with zero counters, every weakly fair execution of @main on the sixteen devices terminates, and
    every final state has the arguments unchanged, the result `resOf`, and every counter of the machine at zero. -/
theorem run_main : θ_run defs (onTc (τ := τ) (main (F := F))) ⟨m, fun _ => 0, ρ⟩
    (fun r => (∀ c : Dev nD, Final m c r.2.mem) ∧ r.2.sem = fun _ => 0) :=
  Pipeline.θ_run_regions_kit_sems (pcfgs (F := F)) adm (pdats m) () Gen.cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := parked) (u₀ := u₀)
    (hu₀ := by
      unfold u₀
      iintro Hu
      ihave H := (ownU_split _ _) $$ Hu
      icases H with ⟨HP, HX⟩
      imodintro
      isplitl [HP]; · iexact HP
      rw [parked_eq]; iexact HX)
    (T₀ := T₀ m) (Tₙ := Tₙ m)
    (hch := ⟨fun c => .rfl, fun c => reg0_pre m c, fun c => reg0_post m c⟩)
    (hinit := init m ρ)
    (QY := fun c s => Final m c s.mem ∧ s.sem (barCell c) = 0)
    (hfin := fun c s' => by
      dsimp only [Tₙ, Yk]
      rw [StableHlo.held_sub_split (c : Thread nD τ) seen_sub (V₂ m c), seen_held, V₂_arg0, V₂_arg1, V₂_arg2, V₂_arg3, V₂_arg4, V₂_res]
      iintro ⟨⟨⟨⟨H0, H1, H2, H3, H4, H8⟩, -⟩, Hb⟩, HSI⟩
      icombine HSI H0 gives %h0
      icombine HSI H1 gives %h1
      icombine HSI H2 gives %h2
      icombine HSI H3 gives %h3
      icombine HSI H4 gives %h4
      icombine HSI H8 gives %h8
      icombine HSI Hb gives %hb
      imodintro
      isplitr
      · ipureintro
        exact ⟨⟨⟨Buf.eq_of_forall_mem_univ h0, Buf.eq_of_forall_mem_univ h1, Buf.eq_of_forall_mem_univ h2, Buf.eq_of_forall_mem_univ h3,
          Buf.eq_of_forall_mem_univ h4⟩, Buf.eq_of_forall_mem_univ h8⟩, by simpa using hb⟩
      iexact HSI)
    (hQ := fun s h hs => ⟨fun c => (h c).1,
      sem_eq_zero hs fun c sm hsm => by
        obtain rfl := unscoped_eq sm hsm
        exact (h c).2⟩)

end Cert.KernelIdeal.Ring
-- ==== Proof.Frames.lean ====
/-
  The frame claims: every run terminates without a fault, leaves the arguments unchanged, and ends with every counter at
  zero. Both texts of the kernel are the same program, read over extended reals or over bit patterns; `run_main` covers both.
-/
module

public import proofs.«01_k».proof.Defs
public import proofs.«01_k».proof.Proof.Launch
public import proofs.«01_k».proof.Proof.Gen.Kernel
public import proofs.«01_k».proof.Proof.Gen.Kernel.Skeleton
public import proofs.«01_k».proof.Proof.Gen.ReferenceIdeal
public import proofs.«01_k».proof.Proof.Gen.ReferenceIdeal.Run

@[expose] public section

noncomputable section

namespace Cert.Proof

open Idealize.ShloMosaic Idealize.ShloMosaic.TcCoe Idealize.SL.Sem

/-- The frame of the kernel's text over any float values. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD, r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0) :=
  (θ_run Cert.KernelIdeal.defs _ _).mono (fun _ h => ⟨fun c => (h.1 c).1, h.2⟩) (Cert.KernelIdeal.Ring.run_main m ρ)

/-- The kernel over extended reals. -/
theorem frame_ideal : Cert.quiescent_KernelIdeal (hKernelIdeal := Cert.KernelIdeal.Gen.facts) := fun m ρ _ => frame_any m ρ

section OneText
set_option backward.isDefEq.respectTransparency.types false

/-- The two printed texts have the same kernel bodies, -/
theorem bodies_eq : Cert.Kernel.defs₀ (F := Bits) = Cert.KernelIdeal.defs₀ (F := Bits) := by
  unfold Cert.Kernel.defs₀ Cert.KernelIdeal.defs₀
  refine congrArg Defs.onTc ?_
  funext l a
  obtain ⟨_ | n, h⟩ := l
  · rfl
  · exact absurd h (Nat.not_lt.2 (Nat.le_add_left _ _))
/-- the same labels, -/
theorem defs_eq : Cert.Kernel.defs (F := Bits) = Cert.KernelIdeal.defs (F := Bits) := congrArg (Pipeline.defs Cert.KernelIdeal.pcfgs) bodies_eq
/-- and the same @main. -/
theorem main_eq : Cert.Kernel.main (F := Bits) = Cert.KernelIdeal.main (F := Bits) := rfl

/-- The kernel over bit patterns: the same run. -/
theorem frame_kernel : Cert.quiescent_Kernel (hKernel := Cert.Kernel.Gen.facts) := fun m ρ _ => by
  rw [defs_eq, main_eq]
  exact frame_any (F := Bits) m ρ

end OneText

/-- The reference's host operations: it declares no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems rfl r.2⟩) (Cert.ReferenceIdeal.Value.run m ρ)

end Cert.Proof

end
-- ==== Proof.Slots.lean ====
/-
  One chunk at the extended reals: which tokens device `b` serves, which row each of them takes, and that the rows, put
  back at their tokens, are the tokens' gated products.

  The gate values of a chunk are `p`, a token's row zero away from its expert. A token is served by device `b` when its gate
  values on the device's four experts have a positive sum; it takes the row numbered by the served tokens before it. There
  are 32 rows, so `places` and `answer` lose nothing as long as at most 32 tokens are served (`back`).
-/
module

public import proofs.«01_k».proof.Proof.Contents
public import Idealize.ShloMosaic.Lib.Pointwise
public import Idealize.ShloMosaic.PureOps.Ideal.Laws

@[expose] public section

noncomputable section

namespace Cert.KernelIdeal.Ring

open Idealize.ShloMosaic Idealize.SL.Sem
open Cert.KernelIdeal.Facts₀ Cert.KernelIdeal.Facts

/-! ## Words -/

/-- A selection by a decided proposition. -/
theorem select_decide {α : Type} (P : Prop) [Decidable P] (a b : α) : Scalar.select (BitVec.ofBool (decide P)) a b = if P then a else b := by
  by_cases h : P
  · rw [decide_eq_true h, if_pos h]; rfl
  · rw [decide_eq_false h, if_neg h]; rfl
/-- A decided proposition as a number. -/
theorem sitofp_decide {φ : FTy} (P : Prop) [Decidable P] : (FloatOps.sitofp φ (BitVec.setWidth 32 (BitVec.ofBool (decide P))) : Ideal φ) = if P then (1 : EReal) else 0 := by
  by_cases h : P
  · rw [decide_eq_true h, if_pos h]; show (((BitVec.setWidth 32 (BitVec.ofBool true)).toInt : ℝ) : EReal) = 1; simp
  · rw [decide_eq_false h, if_neg h]; show (((BitVec.setWidth 32 (BitVec.ofBool false)).toInt : ℝ) : EReal) = 0; simp
/-- Both of two decided propositions. -/
theorem andi_decide (P Q : Prop) [Decidable P] [Decidable Q] : IntOp.andi (BitVec.ofBool (decide P)) (BitVec.ofBool (decide Q)) = BitVec.ofBool (decide (P ∧ Q)) := by
  by_cases h : P <;> by_cases h' : Q <;> simp [h, h', IntOp.andi]
/-- Equality of small numbers' words. -/
theorem cmpi_eq_small (a b : ℕ) (ha : a < 2 ^ 32) (hb : b < 2 ^ 32) :
    IntOp.cmpi .eq (BitVec.ofNat 32 a) (BitVec.ofNat 32 b) = BitVec.ofBool (decide (a = b)) := by
  show BitVec.ofBool (BitVec.ofNat 32 a == BitVec.ofNat 32 b) = _
  congr 1
  rw [Bool.eq_iff_iff, beq_iff_eq, decide_eq_true_iff]
  refine ⟨fun h => ?_, fun h => by rw [h]⟩
  have := congrArg BitVec.toNat h
  rwa [BitVec.toNat_ofNat, BitVec.toNat_ofNat, Nat.mod_eq_of_lt ha, Nat.mod_eq_of_lt hb] at this
/-- Order of small numbers' words. -/
theorem cmpi_slt_small (a b : ℕ) (ha : a < 2 ^ 31) (hb : b < 2 ^ 31) :
    IntOp.cmpi .slt (BitVec.ofNat 32 a) (BitVec.ofNat 32 b) = BitVec.ofBool (decide (a < b)) := by
  show BitVec.ofBool ((BitVec.ofNat 32 a).slt (BitVec.ofNat 32 b)) = _
  congr 1
  have h : ∀ n : ℕ, n < 2 ^ 31 → (BitVec.ofNat 32 n).toInt = n := fun n hn => by
    rw [BitVec.toInt_eq_toNat_of_lt (by rw [BitVec.toNat_ofNat, Nat.mod_eq_of_lt (by omega)]; omega), BitVec.toNat_ofNat, Nat.mod_eq_of_lt (by omega)]
  rw [Bool.eq_iff_iff, BitVec.slt_iff_toInt_lt, decide_eq_true_iff, h a ha, h b hb, Nat.cast_lt]
/-- A small count as a float, cast to an integer, is its word. -/
theorem fptosi_count (n : ℕ) (hn : n < 2 ^ 31) : Ideal.fptosi 32 ((n : ℕ) : EReal) = BitVec.ofNat 32 n := by
  show BitVec.ofInt 32 (Ideal.toIntClamped _ _ (((n : ℝ)) : EReal)) = _
  rw [Ideal.toIntClamped_coe, if_pos (Nat.cast_nonneg n), Int.floor_natCast]
  rw [min_eq_right (by norm_num; omega), max_eq_right (by norm_num)]
  exact BitVec.ofInt_natCast 32 n

/-! ## Served tokens and their rows -/

/-- The gate value of token `t` on local expert `e` of device `b`. -/
abbrev gv (b : Fin 16) (p : Vec Ideal S128x64 .f32) (t : Fin 128) (e : Fin 4) : EReal := p (ix2 t ⟨4 * b.val + e.val, by omega⟩)
/-- Token `t` is served by device `b`. -/
def Here (b : Fin 16) (p : Vec Ideal S128x64 .f32) (t : Fin 128) : Prop := 0 < ∑ e : Fin 4, gv b p t e
instance (b : Fin 16) (p : Vec Ideal S128x64 .f32) (t : Fin 128) : Decidable (Here b p t) := inferInstanceAs (Decidable (0 < ∑ e : Fin 4, gv b p t e))
/-- The served tokens before token `t`. -/
def rank (b : Fin 16) (p : Vec Ideal S128x64 .f32) (t : Fin 128) : ℕ := (Finset.univ.filter fun u : Fin 128 => u < t ∧ Here b p u).card

/-- There are at most 128 such tokens. -/
theorem rank_le (b : Fin 16) (p : Vec Ideal S128x64 .f32) (t : Fin 128) : rank b p t ≤ 128 :=
  (Finset.card_le_univ _).trans (by simp)
/-- Two served tokens take different rows. -/
theorem rank_lt {b : Fin 16} {p : Vec Ideal S128x64 .f32} {u t : Fin 128} (h : u < t) (hu : Here b p u) : rank b p u < rank b p t := by
  refine Finset.card_lt_card ((Finset.ssubset_iff_of_subset fun v hv => ?_).mpr ⟨u, ?_, ?_⟩)
  · simp only [Finset.mem_filter, Finset.mem_univ, true_and] at hv ⊢; exact ⟨hv.1.trans h, hv.2⟩
  · simp only [Finset.mem_filter, Finset.mem_univ, true_and]; exact ⟨h, hu⟩
  · simp
/-- Two served tokens with one row are one token. -/
theorem rank_inj {b : Fin 16} {p : Vec Ideal S128x64 .f32} {u t : Fin 128} (hu : Here b p u) (ht : Here b p t) (h : rank b p u = rank b p t) : u = t := by
  rcases lt_trichotomy u t with h' | h' | h'
  · have := rank_lt h' hu; omega
  · exact h'
  · have := rank_lt h' ht; omega

/-- A nonnegative real factor moves inside a sum. -/
theorem mul_sum_real {ι : Type} (S : Finset ι) {r : ℝ} (hr : 0 ≤ r) (f : ι → EReal) : (r : EReal) * ∑ i ∈ S, f i = ∑ i ∈ S, (r : EReal) * f i := by
  classical
  induction S using Finset.induction_on with
  | empty => rw [Finset.sum_empty, Finset.sum_empty, mul_zero]
  | insert a S ha ih => rw [Finset.sum_insert ha, Finset.sum_insert ha, EReal.left_distrib_of_nonneg_of_ne_top (EReal.coe_nonneg.mpr hr) (EReal.coe_ne_top r), ih]

/-- Four runs of `n`, read at entry `s` of run `j`. -/
theorem pick4 {α : Type} {n : ℕ} (g : Fin 4 → Fin n → α) (j : Fin 4) (s : Fin n) (h3 : ¬ n * j.val + s.val < n → ¬ n * j.val + s.val - n < n → ¬ n * j.val + s.val - n - n < n → n * j.val + s.val - n - n - n < n) :
    (if h : n * j.val + s.val < n then g 0 ⟨n * j.val + s.val, h⟩
      else if h : n * j.val + s.val - n < n then g 1 ⟨n * j.val + s.val - n, h⟩
      else if h : n * j.val + s.val - n - n < n then g 2 ⟨n * j.val + s.val - n - n, h⟩
      else g 3 ⟨n * j.val + s.val - n - n - n, h3 ‹_› ‹_› ‹_›⟩) = g j s := by
  have hs := s.isLt
  match j with
  | ⟨0, _⟩ => rw [dif_pos (by show n * 0 + s.val < n; omega)]; exact congrArg (g 0) (Fin.ext (by show n * 0 + s.val = s.val; omega))
  | ⟨1, _⟩ =>
    rw [dif_neg (by show ¬ n * 1 + s.val < n; omega), dif_pos (by show n * 1 + s.val - n < n; omega)]
    exact congrArg (g 1) (Fin.ext (by show n * 1 + s.val - n = s.val; omega))
  | ⟨2, _⟩ =>
    rw [dif_neg (by show ¬ n * 2 + s.val < n; omega), dif_neg (by show ¬ n * 2 + s.val - n < n; omega), dif_pos (by show n * 2 + s.val - n - n < n; omega)]
    exact congrArg (g 2) (Fin.ext (by show n * 2 + s.val - n - n = s.val; omega))
  | ⟨3, _⟩ =>
    rw [dif_neg (by show ¬ n * 3 + s.val < n; omega), dif_neg (by show ¬ n * 3 + s.val - n < n; omega), dif_neg (by show ¬ n * 3 + s.val - n - n < n; omega)]
    exact congrArg (g 3) (Fin.ext (by show n * 3 + s.val - n - n - n = s.val; omega))

variable (b : Fin 16) (p : Vec Ideal S128x64 .f32)

/-- The word of local expert `e`'s number. -/
theorem expert_word (e : Fin 4) : Scalar.addi (Scalar.muli (BitVec.ofNat 32 b.val) 4#32) (BitVec.ofNat 32 e.val) = BitVec.ofNat 32 (4 * b.val + e.val) := by
  show BitVec.ofNat 32 b.val * BitVec.ofNat 32 4 + BitVec.ofNat 32 e.val = _
  rw [← BitVec.ofNat_mul, ← BitVec.ofNat_add, mul_comm b.val]

/-- The gate column of an expert of device `b`; -/
theorem gate_apply (e : Fin 4) (t : Fin 128) : gate (BitVec.ofNat 32 b.val) (BitVec.ofNat 32 e.val) p (ix2 t 0) = gv b p t e := by
  pointwise [gate]
  rw [expert_word]
  have : ∀ k : Fin 64, Scalar.select (IntOp.cmpi CmpIPredicate.eq (BitVec.ofNat 32 k.val) (BitVec.ofNat 32 (4 * b.val + e.val))) (p (ix2 t k)) (0 : EReal)
      = if (⟨4 * b.val + e.val, by omega⟩ : Fin 64) = k then p (ix2 t k) else 0 := fun k => by
    rw [cmpi_eq_small _ _ (by omega) (by omega), select_decide]
    exact if_congr (by rw [Fin.ext_iff]; exact eq_comm) rfl rfl
  simp only [this, Finset.sum_ite_eq, Finset.mem_univ, if_true]

/-- the mark of the served tokens; -/
theorem served_apply (t : Fin 128) : served (BitVec.ofNat 32 b.val) p (ix2 t 0) = BitVec.ofBool (decide (Here b p t)) := by
  pointwise [served]
  rw [show (0#32) = BitVec.ofNat 32 (0 : Fin 4).val from rfl, show (1#32) = BitVec.ofNat 32 (1 : Fin 4).val from rfl,
    show (2#32) = BitVec.ofNat 32 (2 : Fin 4).val from rfl, show (3#32) = BitVec.ofNat 32 (3 : Fin 4).val from rfl]
  simp only [gate_apply]
  show BitVec.ofBool (decide (0 < gv b p t 0 + gv b p t 1 + gv b p t 2 + gv b p t 3)) = _
  congr 1
  rw [decide_eq_decide]
  show _ ↔ 0 < ∑ e : Fin 4, gv b p t e
  rw [Fin.sum_univ_four]

/-- the number of served tokens before a token; -/
theorem before_apply (t : Fin 128) : before (BitVec.ofNat 32 b.val) p (ix2 t 0) = ((rank b p t : ℕ) : EReal) := by
  pointwise [before, Gen.k0_pay5]
  simp only [served_apply]
  have : ∀ u : Fin 128, (FloatOps.sitofp FTy.f32 (BitVec.setWidth 32 (IntOp.cmpi CmpIPredicate.slt (BitVec.ofNat 32 u.val) (BitVec.ofNat 32 t.val))) : Ideal .f32)
      * (FloatOps.sitofp FTy.f32 (BitVec.setWidth 32 (BitVec.ofBool (decide (Here b p u)))) : Ideal .f32) = if u < t ∧ Here b p u then (1 : EReal) else 0 := fun u => by
    rw [cmpi_slt_small _ _ (by omega) (by omega), sitofp_decide, sitofp_decide]
    by_cases h : u < t <;> by_cases h' : Here b p u <;> simp [h, h']
  simp only [this]
  rw [← Finset.sum_filter, Finset.sum_const, nsmul_one]
  rfl

/-- the match of tokens and rows; -/
theorem hit_apply (t : Fin 128) (s : Fin 32) :
    hit (BitVec.ofNat 32 b.val) p (ix2 t s) = BitVec.ofBool (decide (rank b p t = s.val ∧ Here b p t)) := by
  pointwise [hit]
  rw [before_apply, served_apply]
  have h := rank_le b p t
  rw [show (FloatOps.fptosi (F := Ideal) (φ := .f32) 32 ((rank b p t : ℕ) : EReal) : BitVec 32) = BitVec.ofNat 32 (rank b p t) from fptosi_count _ (by omega),
    cmpi_eq_small _ _ (by omega) (by omega), andi_decide]

/-- the match weighted with a gate; -/
theorem weight_apply (e : Fin 4) (t : Fin 128) (s : Fin 32) :
    weight (BitVec.ofNat 32 b.val) (BitVec.ofNat 32 e.val) p (ix2 t s) = if rank b p t = s.val ∧ Here b p t then gv b p t e else 0 := by
  pointwise [weight]
  rw [hit_apply, gate_apply, select_decide]

/-- the match, turned over, as floats. -/
theorem places_apply (t : Fin 128) (s : Fin 32) :
    places (BitVec.ofNat 32 b.val) p (ix2 s t) = if rank b p t = s.val ∧ Here b p t then (1 : EReal) else 0 := by
  pointwise [places, Gen.k0_pay6]
  have : ∀ u : Fin 128, (FloatOps.sitofp FTy.f32 (BitVec.setWidth 32 (hit (BitVec.ofNat 32 b.val) p (ix2 u s))) : Ideal .f32)
      * (FloatOps.sitofp FTy.f32 (BitVec.setWidth 32 (IntOp.cmpi CmpIPredicate.eq (BitVec.ofNat 32 t.val) (BitVec.ofNat 32 u.val))) : Ideal .f32)
      = if t = u then (if rank b p u = s.val ∧ Here b p u then (1 : EReal) else 0) else 0 := fun u => by
    rw [hit_apply, cmpi_eq_small _ _ (by omega) (by omega), sitofp_decide, sitofp_decide]
    by_cases h : t = u
    · rw [if_pos h, if_pos (congrArg Fin.val h), mul_one]
    · rw [if_neg h, if_neg (fun h' => h (Fin.ext h')), mul_zero]
  simp only [this, Finset.sum_ite_eq, Finset.mem_univ, if_true]

/-- A row of weighted tokens: the sum over the tokens that the row serves. -/
theorem weighted_apply (x : Vec Ideal S128x512 .bf16) (e : Fin 4) (s : Fin 32) (d : Fin 512) :
    weighted (BitVec.ofNat 32 b.val) x p (ix2 ⟨32 * e.val + s.val, by omega⟩ d)
      = ∑ u : Fin 128, (if rank b p u = s.val ∧ Here b p u then gv b p u e else 0) * x (ix2 u d) := by
  pointwise [weighted]
  refine Finset.sum_congr rfl fun u _ => congrArg (· * x (ix2 u d)) ?_
  rw [← weight_apply]
  exact pick4 (fun e' s' => weight (BitVec.ofNat 32 b.val) (BitVec.ofNat 32 e'.val) p (ix2 u s')) e s _

/-! ## A group of four chunks -/

variable (m : Vec Ideal S2048x1024 .bf16)

/-- Row `s` of a chunk's answers, column `f`. -/
def answerAt (ch : Chunk Ideal) (s : Fin 32) (f : Fin 1024) : EReal :=
  ∑ e : Fin 4, ∑ d : Fin 512, weighted (BitVec.ofNat 32 b.val) ch.1 ch.2 (ix2 ⟨32 * e.val + s.val, by omega⟩ d) * m (ix2 ⟨512 * e.val + d.val, by omega⟩ f)

/-- The experts side by side: column `512 e + d` is column `d` of expert `e`'s row. -/
theorem gathered_apply (x : Vec Ideal S128x512 .bf16) (s : Fin 32) (e : Fin 4) (d : Fin 512) :
    gathered (BitVec.ofNat 32 b.val) x p (ix2 s ⟨512 * e.val + d.val, by omega⟩)
      = weighted (BitVec.ofNat 32 b.val) x p (ix2 ⟨32 * e.val + s.val, by omega⟩ d) := by
  pointwise [gathered]
  refine (pick4 (fun e' d' => weighted (BitVec.ofNat 32 b.val) x p
    (ix2 ((![⟨s.val, by omega⟩, ⟨32 + s.val, by omega⟩, ⟨64 + s.val, by omega⟩, ⟨96 + s.val, by omega⟩] : Fin 4 → Fin 128) e') d')) e d (by omega)).trans
    (congrArg (fun r => weighted (BitVec.ofNat 32 b.val) x p (ix2 r d)) ?_)
  match e with
  | ⟨0, _⟩ => exact Fin.ext (by show s.val = 32 * 0 + s.val; omega)
  | ⟨1, _⟩ | ⟨2, _⟩ | ⟨3, _⟩ => rfl

/-- A sum over `n * k` numbers, cut in `n` runs of `k`. -/
theorem sum_runs {N n k : ℕ} (h : N = n * k) (f : Fin N → EReal) (hi : ∀ (a : Fin n) (c : Fin k), k * a.val + c.val < N) :
    ∑ i, f i = ∑ a : Fin n, ∑ c : Fin k, f ⟨k * a.val + c.val, hi a c⟩ := by
  subst h
  rw [← Finset.sum_product', ← (finProdFinEquiv (m := n) (n := k)).sum_comp]
  exact Finset.sum_congr rfl fun x _ => congrArg f (Fin.ext (add_comm _ _))

variable (ch : Fin 4 → Chunk Ideal)

/-- The answers' columns of a group. -/
theorem payload_answer (j : Fin 4) (s : Fin 32) (f : Fin 1024) :
    payload (BitVec.ofNat 32 b.val) (ch 0) (ch 1) (ch 2) (ch 3) m (ix3 0 ⟨32 * j.val + s.val, by omega⟩ ⟨f.val, by omega⟩)
      = answerAt b m (ch j) s f := by
  pointwise [payload]
  refine (sum_runs (n := 4) (k := 512) rfl _ (fun a c => by omega)).trans (Finset.sum_congr rfl fun e _ => Finset.sum_congr rfl fun d _ => ?_)
  refine congrArg (· * m (ix2 ⟨512 * e.val + d.val, _⟩ f)) ?_
  rw [← gathered_apply]
  exact pick4 (fun j' s' => gathered (BitVec.ofNat 32 b.val) (ch j').1 (ch j').2 (ix2 s' ⟨512 * e.val + d.val, _⟩)) j s _

/-- The tokens' columns of a group. -/
theorem payload_places (j : Fin 4) (s : Fin 32) (t : Fin 128) :
    payload (BitVec.ofNat 32 b.val) (ch 0) (ch 1) (ch 2) (ch 3) m (ix3 0 ⟨32 * j.val + s.val, by omega⟩ ⟨1024 + t.val, by omega⟩)
      = if rank b (ch j).2 t = s.val ∧ Here b (ch j).2 t then (1 : EReal) else 0 := by
  pointwise [payload]
  rw [← places_apply]
  exact pick4 (fun j' s' => places (BitVec.ofNat 32 b.val) (ch j').2 (ix2 s' t)) j s _

/-! ## Put back -/

/-- The rows put back at their tokens are the tokens' gated products. -/
theorem back (x : Vec Ideal S128x512 .bf16) (hp : ∀ t e, ∃ r : ℝ, 0 ≤ r ∧ p (ix2 t e) = (r : EReal)) (t : Fin 128)
    (ht : Here b p t → rank b p t < 32) (f : Fin 1024) :
    ∑ s : Fin 32, (if rank b p t = s.val ∧ Here b p t then (1 : EReal) else 0) * answerAt b m (x, p) s f
      = ∑ e : Fin 4, gv b p t e * ∑ d : Fin 512, x (ix2 t d) * m (ix2 ⟨512 * e.val + d.val, by omega⟩ f) := by
  by_cases h : Here b p t
  · rw [Finset.sum_eq_single (⟨rank b p t, ht h⟩ : Fin 32) (fun s _ hs => by
        rw [if_neg (fun h' => hs (Fin.ext h'.1.symm)), zero_mul]) (fun h' => absurd (Finset.mem_univ _) h'), if_pos ⟨rfl, h⟩, one_mul]
    unfold answerAt
    refine Finset.sum_congr rfl fun e _ => ?_
    obtain ⟨r, hr, hg⟩ := hp t ⟨4 * b.val + e.val, by omega⟩
    have hw : ∀ d : Fin 512, weighted (BitVec.ofNat 32 b.val) x p (ix2 ⟨32 * e.val + rank b p t, by have := ht h; omega⟩ d) = gv b p t e * x (ix2 t d) := fun d => by
      rw [weighted_apply b p x e ⟨rank b p t, ht h⟩ d, Finset.sum_eq_single t (fun u _ hu => by
        rw [if_neg (fun h' => hu (rank_inj h'.2 h h'.1)), zero_mul]) (fun h' => absurd (Finset.mem_univ _) h'), if_pos ⟨rfl, h⟩]
    rw [show gv b p t e = (r : EReal) from hg] at hw ⊢
    rw [mul_sum_real _ hr]
    exact Finset.sum_congr rfl fun d _ => by rw [← mul_assoc, ← hw d]
  · have hz : ∀ e : Fin 4, gv b p t e = 0 := fun e => by
      have hn : ∀ e' ∈ (Finset.univ : Finset (Fin 4)), 0 ≤ gv b p t e' := fun e' _ => by
        obtain ⟨r, hr, hg⟩ := hp t ⟨4 * b.val + e'.val, by omega⟩
        rw [show gv b p t e' = (r : EReal) from hg]; exact EReal.coe_nonneg.mpr hr
      exact (Finset.sum_eq_zero_iff_of_nonneg hn).mp (le_antisymm (not_lt.mp h) (Finset.sum_nonneg hn)) e (Finset.mem_univ e)
    rw [Finset.sum_eq_zero fun s _ => by rw [if_neg (fun h' => h h'.2), zero_mul], Finset.sum_eq_zero fun e _ => by rw [hz e, zero_mul]]

end Cert.KernelIdeal.Ring

end
-- ==== Proof.Softmax.lean ====
/-
  The gate probabilities as plain functions of the tokens and the router's matrix, over the extended reals, and that finite
  inputs make each of them a positive real.
-/
module

public import Idealize.ShloMosaic.Lib.Pointwise
public import Idealize.ShloMosaic.PureOps.Ideal.Laws

@[expose] public section

noncomputable section

namespace Cert.KernelIdeal.Ring

open Idealize.ShloMosaic

/-- Arrays by their sizes. -/
abbrev Tokens : Type := (⟨2, ![2048, 512]⟩ : Shape).Idx → EReal
/-- The router's matrix. -/
abbrev Router : Type := (⟨2, ![512, 64]⟩ : Shape).Idx → EReal

/-- The score of expert `e` for token `t`. -/
def score (x : Tokens) (W : Router) (t : Fin 2048) (e : Fin 64) : EReal := ∑ k : Fin 512, x (ix2 t k) * W (ix2 k e)
/-- A token's largest score. -/
def best (x : Tokens) (W : Router) (t : Fin 2048) : EReal := Finset.univ.fold max (Ideal.ofBits .f32 0xFF800000#32) (score x W t)
/-- The exponential of a score less the largest. -/
def expo (x : Tokens) (W : Router) (t : Fin 2048) (e : Fin 64) : EReal := Ideal.exp (score x W t e - best x W t)
/-- The gate probability. -/
def prob (x : Tokens) (W : Router) (t : Fin 2048) (e : Fin 64) : EReal := Ideal.div (expo x W t e) (∑ k : Fin 64, expo x W t k)

/-- The word of `-∞` is the least extended real, that of `∞` the largest. -/
theorem ofBits_neg_inf : Ideal.ofBits .f32 0xFF800000#32 = ⊥ := by simp [Ideal.ofBits, Ideal.ieee]
/-- The word of `∞` is the largest extended real. -/
theorem ofBits_inf : Ideal.ofBits .f32 0x7F800000#32 = ⊤ := by simp [Ideal.ofBits, Ideal.ieee]

/-- A sum of reals is a real. -/
theorem sum_real {ι : Type} (S : Finset ι) (f : ι → EReal) (g : ι → ℝ) (h : ∀ i ∈ S, f i = (g i : EReal)) : ∑ i ∈ S, f i = ((∑ i ∈ S, g i : ℝ) : EReal) := by
  rw [Finset.sum_congr rfl h]; exact (map_sum (⟨⟨Real.toEReal, EReal.coe_zero⟩, EReal.coe_add⟩ : ℝ →+ EReal) g S).symm

variable {x : Tokens} {W : Router} (hx : ∀ i, ∃ r : ℝ, x i = (r : EReal)) (hW : ∀ i, ∃ r : ℝ, W i = (r : EReal))
include hx hW

theorem score_real (t : Fin 2048) (e : Fin 64) : ∃ r : ℝ, score x W t e = (r : EReal) := by
  choose xr hxr using hx
  choose wr hwr using hW
  exact ⟨_, sum_real _ _ (fun k => xr (ix2 t k) * wr (ix2 k e)) fun k _ => by rw [hxr, hwr, EReal.coe_mul]⟩

/-- The largest score is a real, -/
theorem best_real (t : Fin 2048) : ∃ r : ℝ, best x W t = (r : EReal) := by
  have hs := score_real hx hW t
  refine ⟨(best x W t).toReal, (EReal.coe_toReal ?_ ?_).symm⟩
  · refine ne_of_lt ((Finset.fold_max_lt _).mpr ⟨by rw [ofBits_neg_inf]; exact bot_lt_top, fun e _ => ?_⟩)
    obtain ⟨r, hr⟩ := hs e; rw [hr]; exact EReal.coe_lt_top r
  · refine ne_of_gt (lt_of_lt_of_le ?_ ((Finset.le_fold_max _).mpr (Or.inr ⟨(0 : Fin 64), Finset.mem_univ _, le_rfl⟩)))
    obtain ⟨r, hr⟩ := hs 0; rw [hr]; exact EReal.bot_lt_coe r

/-- and each exponential is a positive real. -/
theorem expo_real (t : Fin 2048) (e : Fin 64) : ∃ r : ℝ, 0 < r ∧ expo x W t e = (r : EReal) := by
  obtain ⟨a, ha⟩ := score_real hx hW t e
  obtain ⟨b, hb⟩ := best_real hx hW t
  exact ⟨Real.exp (a - b), Real.exp_pos _, by unfold expo; rw [ha, hb, ← EReal.coe_sub]; rfl⟩

/-- With finite inputs a gate probability is a positive real. -/
theorem prob_real (t : Fin 2048) (e : Fin 64) : ∃ r : ℝ, 0 < r ∧ prob x W t e = (r : EReal) := by
  choose g hg hge using fun e => expo_real hx hW t e
  have hsum : ∑ k : Fin 64, expo x W t k = ((∑ k : Fin 64, g k : ℝ) : EReal) := sum_real _ _ g fun k _ => hge k
  have hpos : 0 < ∑ k : Fin 64, g k := Finset.sum_pos (fun k _ => hg k) ⟨0, Finset.mem_univ _⟩
  refine ⟨g e * (∑ k : Fin 64, g k)⁻¹, mul_pos (hg e) (inv_pos.mpr hpos), ?_⟩
  unfold prob Ideal.div
  rw [hsum, hge, if_neg (by rw [EReal.coe_eq_zero]; exact hpos.ne'), EReal.coe_mul, EReal.coe_inv]

end Cert.KernelIdeal.Ring

end
-- ==== Proof.Exchange.lean ====
/-
  What a device's output holds, over the extended reals, element by element: the shared product plus, from each of the
  sixteen devices, that device's part.

  The inputs are whole arrays: the tokens `x`, the router's matrix `W`, the routes `route`, all 64 experts' matrices `E` and
  the shared matrix `sw`; `argsOf` is what each device's body starts from.
-/
module

public import proofs.«01_k».proof.Proof.Buffers
public import proofs.«01_k».proof.Proof.Slots
public import proofs.«01_k».proof.Proof.Softmax

@[expose] public section

noncomputable section

namespace Cert.KernelIdeal.Ring

open Idealize.ShloMosaic Idealize.SL.Sem
open Cert.KernelIdeal.Facts₀ Cert.KernelIdeal.Facts

/-! ## Which rows -/

/-- The word of a device's position. -/
theorem posWord_eq (c : Dev nD) : posWord c = BitVec.ofNat 32 c.val := by revert c; decide

/-- The device whose chunk is the `n`-th that device `b` answers. -/
def target (b : Dev nD) (n : Fin 16) : Dev nD := ⟨(b.val + n.val + 1) % 16, Nat.mod_lt _ (by decide)⟩

/-- Which rows of the tokens the `n`-th chunk of device `b` takes, -/
theorem rowsAt_off (b : Dev nD) (n : Fin 16) : ∀ a, (rowsAt b n).off a = (![128 * (target b n).val, 0] : Fin 2 → ℕ) a := by revert b n; decide
/-- and which rows of the gates. -/
theorem rowsAt_off' (b : Dev nD) (n : Fin 16) : ∀ a, (rowsAt b n).off' a = (![128 * (target b n).val, 0] : Fin 2 → ℕ) a := by revert b n; decide

/-! ## What each device starts from, and its chunks -/

/-- The routes, one per token. -/
abbrev Routes : Type := (⟨2, ![2048, 1]⟩ : Shape).Idx → BitVec 32
/-- All experts' matrices. -/
abbrev Experts : Type := (⟨3, ![64, 512, 1024]⟩ : Shape).Idx → EReal
/-- One matrix from tokens to outputs. -/
abbrev Matrix : Type := (⟨2, ![512, 1024]⟩ : Shape).Idx → EReal

variable (x : Tokens) (W : Router) (route : Routes) (E : Experts) (sw : Matrix)

/-- What device `c`'s body starts from. -/
def argsOf (c : Dev nD) : Args Ideal where
  x := x
  rw := fun i => W (ix2 (i 1) (i 0))
  oh := fun i => if route (ix2 (i 0) 0) = BitVec.ofNat 32 (i 1).val then (1 : EReal) else 0
  ew := fun i => E (ix3 ⟨4 * c.val + (i 0).val, by have : c.val < 16 := c.isLt; have : (i 0).val < 4 := (i 0).isLt; omega⟩ (i 1) (i 2))
  sw := sw

/-- A token's masked gate probability. -/
def masked (t : Fin 2048) (e : Fin 64) : EReal := prob x W t e * if route (ix2 t 0) = BitVec.ofNat 32 e.val then 1 else 0

/-- Token `t` of chunk `q`. -/
abbrev tok (q : Fin 16) (t : Fin 128) : Fin 2048 := ⟨128 * q.val + t.val, by omega⟩
/-- Chunk `q`: its tokens and their masked gate probabilities. -/
def chunkAt (q : Fin 16) : Chunk Ideal := (fun j => x (ix2 (tok q (j 0)) (j 1)), fun j => masked x W route (tok q (j 0)) (j 1))

/-- The gates that a device computes, -/
theorem mpOf_apply (c : Dev nD) (t : Fin 2048) (e : Fin 64) : mpOf (argsOf x W route E sw c) (ix2 t e) = masked x W route t e := by
  pointwise [mpOf, Gen.k0_pay4, Gen.k0_pay3]
  rfl

/-- its experts stacked, -/
theorem ewbOf_apply (c : Dev nD) (e : Fin 4) (d : Fin 512) (f : Fin 1024) :
    ewbOf (argsOf x W route E sw c) (ix2 ⟨512 * e.val + d.val, by omega⟩ f) = E (ix3 ⟨4 * c.val + e.val, by have : c.val < 16 := c.isLt; omega⟩ d f) := by
  pointwise [ewbOf, castExpert, expertOf]
  show E (ix3 ⟨4 * c.val + (512 * e.val + d.val) / 512, _⟩ ⟨(512 * e.val + d.val) % 512, _⟩ f) = _
  exact congrArg₂ (fun a b => E (ix3 a b f)) (Fin.ext (by show 4 * c.val + (512 * e.val + d.val) / 512 = 4 * c.val + e.val; omega)) (Fin.ext (by show (512 * e.val + d.val) % 512 = d.val; omega))

/-- and its `n`-th chunk. -/
theorem chunkOf_eq (c b : Dev nD) (n : Fin 16) : chunkOf (argsOf x W route E sw c) (rowsAt b n) = chunkAt x W route (target b n) := by
  refine Prod.ext ?_ ?_
  · funext j
    show xbOf (argsOf x W route E sw c) ((Rect.unit (s := S2048x512) (rowsAt b n).off S128x512.size (rowsAt b n).inb).emb j) = x (ix2 (tok (target b n) (j 0)) (j 1))
    rw [show (Rect.unit (s := S2048x512) (rowsAt b n).off S128x512.size (rowsAt b n).inb).emb j = (ix2 (tok (target b n) (j 0)) (j 1) : S2048x512.Idx) from ?_]
    · pointwise [xbOf, Gen.k0_pay2]; rfl
    · funext a
      refine Fin.ext ?_
      show (rowsAt b n).off a + 1 * (j a).val = _
      rw [rowsAt_off, one_mul]
      match a with
      | ⟨0, _⟩ => rfl
      | ⟨1, _⟩ => exact Nat.zero_add _
  · funext j
    show mpOf (argsOf x W route E sw c) ((Rect.unit (s := S2048x64) (rowsAt b n).off' S128x64.size (rowsAt b n).inb').emb j) = masked x W route (tok (target b n) (j 0)) (j 1)
    rw [show (Rect.unit (s := S2048x64) (rowsAt b n).off' S128x64.size (rowsAt b n).inb').emb j = (ix2 (tok (target b n) (j 0)) (j 1) : S2048x64.Idx) from ?_]
    · exact mpOf_apply ..
    · funext a
      refine Fin.ext ?_
      show (rowsAt b n).off' a + 1 * (j a).val = _
      rw [rowsAt_off', one_mul]
      match a with
      | ⟨0, _⟩ => rfl
      | ⟨1, _⟩ => exact Nat.zero_add _

/-! ## The slices of the send buffers -/

/-- Device `b`'s answers to chunk `q`: row `s`, column `f`. -/
def reply (b : Dev nD) (q : Fin 16) (s : Fin 32) (f : Fin 1024) : EReal := answerAt b (ewbOf (argsOf x W route E sw b)) (chunkAt x W route q) s f
/-- Whether row `s` of them answers token `t`. -/
def mark (b : Dev nD) (q : Fin 16) (s : Fin 32) (t : Fin 128) : EReal :=
  if rank b (chunkAt x W route q).2 t = s.val ∧ Here b (chunkAt x W route q).2 t then 1 else 0
/-- Device `b`'s part of output row `t` of chunk `q`. -/
def part (b : Dev nD) (q : Fin 16) (t : Fin 128) (f : Fin 1024) : EReal := ∑ s : Fin 32, mark x W route b q s t * reply x W route E sw b q s f

/-- Slice `n` of a send buffer is a group's run of rows. -/
theorem slice_group (b : Dev nD) (g : Fin 4) :
    ∀ r : Fin 4 → Chunk Ideal, (∀ i, r i = chunkAt x W route (target b ⟨4 * g.val + i.val, by omega⟩)) →
      groupOf b (argsOf x W route E sw b) g = payload (BitVec.ofNat 32 b.val) (r 0) (r 1) (r 2) (r 3) (ewbOf (argsOf x W route E sw b)) := fun r hr => by
  unfold groupOf
  rw [posWord_eq, chunkOf_eq, chunkOf_eq, chunkOf_eq, chunkOf_eq, hr, hr, hr, hr]
  rfl

/-- The answers in slice `n`, -/
theorem slice_reply (b : Dev nD) (n : Fin 16) (s : Fin 32) (f : Fin 1024) :
    sbOf b (argsOf x W route E sw b) (ix3 ⟨n.val / 4, by omega⟩ ⟨32 * (n.val % 4) + s.val, by omega⟩ ⟨f.val, by omega⟩) = reply x W route E sw b (target b n) s f := by
  show groupOf b (argsOf x W route E sw b) ⟨n.val / 4, by omega⟩ (ix3 0 ⟨32 * (n.val % 4) + s.val, by omega⟩ ⟨f.val, by omega⟩) = _
  rw [slice_group x W route E sw b ⟨n.val / 4, by omega⟩ _ fun i => rfl]
  refine (payload_answer b _ (fun i : Fin 4 => chunkAt x W route (target b ⟨4 * (n.val / 4) + i.val, by omega⟩)) ⟨n.val % 4, by omega⟩ s f).trans ?_
  unfold reply
  rw [show (⟨4 * (n.val / 4) + n.val % 4, by omega⟩ : Fin 16) = n from Fin.ext (by dsimp only; omega)]

/-- and the marks in slice `n`. -/
theorem slice_mark (b : Dev nD) (n : Fin 16) (s : Fin 32) (t : Fin 128) :
    sbOf b (argsOf x W route E sw b) (ix3 ⟨n.val / 4, by omega⟩ ⟨32 * (n.val % 4) + s.val, by omega⟩ ⟨1024 + t.val, by omega⟩) = mark x W route b (target b n) s t := by
  show groupOf b (argsOf x W route E sw b) ⟨n.val / 4, by omega⟩ (ix3 0 ⟨32 * (n.val % 4) + s.val, by omega⟩ ⟨1024 + t.val, by omega⟩) = _
  rw [slice_group x W route E sw b ⟨n.val / 4, by omega⟩ _ fun i => rfl]
  refine (payload_places b _ (fun i : Fin 4 => chunkAt x W route (target b ⟨4 * (n.val / 4) + i.val, by omega⟩)) ⟨n.val % 4, by omega⟩ s t).trans ?_
  unfold mark
  rw [show (⟨4 * (n.val / 4) + n.val % 4, by omega⟩ : Fin 16) = n from Fin.ext (by dsimp only; omega)]

/-! ## What arrives and what is left -/

/-- The slice that arrives in slot `k` is about the receiver's own chunk. -/
theorem target_dn (c : Dev nD) (k : Fin 15) : target (dn c k) ⟨14 - k.val, by omega⟩ = c := by revert c k; decide
/-- The last slice is about the device's own chunk. -/
theorem target_own (c : Dev nD) : target c 15 = c := by revert c; decide

local notation "AA" => argsOf x W route E sw

/-- The answers in slot `k`, -/
theorem slot_reply (c : Dev nD) (k : Fin 15) (s : Fin 32) (f : Fin 1024) :
    RBof AA c (ix3 k s ⟨f.val, by omega⟩) = reply x W route E sw (dn c k) c s f :=
  (slice_reply x W route E sw (dn c k) ⟨14 - k.val, by omega⟩ s f).trans (by rw [target_dn])
/-- and the marks in slot `k`. -/
theorem slot_mark (c : Dev nD) (k : Fin 15) (s : Fin 32) (t : Fin 128) :
    RBof AA c (ix3 k s ⟨1024 + t.val, by omega⟩) = mark x W route (dn c k) c s t :=
  (slice_mark x W route E sw (dn c k) ⟨14 - k.val, by omega⟩ s t).trans (by rw [target_dn])

/-- Four slots read at once, -/
theorem four_apply (c : Dev nD) (k : Fin 12) (a : Fin 4) (s : Fin 32) (z : Fin 1152) :
    fourOf AA c k (ix3 a s z) = RBof AA c (ix3 ⟨k.val + a.val, by omega⟩ s z) := by
  show RBof AA c _ = _
  congr 1
  funext b
  match b with
  | ⟨0, _⟩ => exact Fin.ext (by show k.val + 1 * a.val = k.val + a.val; omega)
  | ⟨1, _⟩ => exact Fin.ext (by show 0 + 1 * s.val = s.val; omega)
  | ⟨2, _⟩ => exact Fin.ext (by show 0 + 1 * z.val = z.val; omega)
/-- three slots read at once, -/
theorem three_apply (c : Dev nD) (a : Fin 3) (s : Fin 32) (z : Fin 1152) :
    threeOf AA c (ix3 a s z) = RBof AA c (ix3 ⟨a.val, by omega⟩ s z) := by
  show RBof AA c _ = _
  congr 1
  funext b
  match b with
  | ⟨0, _⟩ => exact Fin.ext (by show 0 + 1 * a.val = a.val; omega)
  | ⟨1, _⟩ => exact Fin.ext (by show 0 + 1 * s.val = s.val; omega)
  | ⟨2, _⟩ => exact Fin.ext (by show 0 + 1 * z.val = z.val; omega)
/-- and the device's own slice. -/
theorem own_apply (c : Dev nD) (s : Fin 32) (z : Fin 1152) :
    ownOf AA c (ix3 0 s z) = SBof AA c (ix3 3 ⟨96 + s.val, by omega⟩ z) := by
  show SBof AA c _ = _
  congr 1
  funext b
  match b with
  | ⟨0, _⟩ => rfl
  | ⟨1, _⟩ => exact Fin.ext (by show 96 + 1 * s.val = 96 + s.val; omega)
  | ⟨2, _⟩ => exact Fin.ext (by show 0 + 1 * z.val = z.val; omega)

/-- Four arrived blocks put back: the parts of their four senders. -/
theorem restored_apply (c : Dev nD) (k : Fin 12) (t : Fin 128) (f : Fin 1024) :
    restored (fourOf AA c k) (ix2 t f) = ∑ a : Fin 4, part x W route E sw (dn c ⟨k.val + a.val, by omega⟩) c t f := by
  pointwise [restored]
  refine (sum_runs (n := 4) (k := 32) rfl _ (fun a c => by omega)).trans (Finset.sum_congr rfl fun a _ => Finset.sum_congr rfl fun s _ => ?_)
  rw [← slot_reply x W route E sw c, ← slot_mark x W route E sw c, ← four_apply, ← four_apply]
  exact congrArg₂ (fun (p : Fin 4) (q : Fin 32) => fourOf AA c k (ix3 p q ⟨1024 + t.val, by omega⟩) * fourOf AA c k (ix3 p q ⟨f.val, by omega⟩))
    (Fin.ext (by show (32 * a.val + s.val) / 32 = a.val; omega)) (Fin.ext (by show (32 * a.val + s.val) % 32 = s.val; omega))

/-- The device's tokens times the shared matrix. -/
def sharedAt (t : Fin 2048) (f : Fin 1024) : EReal := ∑ d : Fin 512, x (ix2 t d) * sw (ix2 d f)
/-- The shared product that a device computes. -/
theorem shared_apply (c : Dev nD) (t : Fin 128) (f : Fin 1024) : sharedOf AA c (ix2 t f) = sharedAt x sw (tok c t) f := by
  pointwise [sharedOf, Gen.k0_pay165, swbOf, Gen.k0_pay164]
  have h := chunkOf_eq x W route E sw c c 15
  rw [target_own, show rowsAt c 15 = rowsOwn c from rfl] at h
  rw [h]
  rfl

/-- The last three arrived blocks and the device's own put back onto a running total. -/
theorem last_apply (c : Dev nD) (tot : Vec Ideal S128x1024 .f32) (t : Fin 128) (f : Fin 1024) :
    Gen.k0_pay1 tot (threeOf AA c) (ownOf AA c) (ix2 t f) =
      tot (ix2 t f) + (∑ a : Fin 3, part x W route E sw (dn c ⟨a.val, by omega⟩) c t f + part x W route E sw c c t f) := by
  pointwise [Gen.k0_pay1]
  refine congrArg₂ (fun p q => tot (ix2 t f) + (p + q)) ?_ ?_
  · refine (sum_runs (n := 3) (k := 32) rfl _ (fun a c => by omega)).trans (Finset.sum_congr rfl fun a _ => Finset.sum_congr rfl fun s _ => ?_)
    rw [← slot_reply x W route E sw c, ← slot_mark x W route E sw c, ← three_apply, ← three_apply]
    exact congrArg₂ (fun (p : Fin 3) (q : Fin 32) => threeOf AA c (ix3 p q ⟨1024 + t.val, by omega⟩) * threeOf AA c (ix3 p q ⟨f.val, by omega⟩))
      (Fin.ext (by show (32 * a.val + s.val) / 32 = a.val; omega)) (Fin.ext (by show (32 * a.val + s.val) % 32 = s.val; omega))
  · refine Finset.sum_congr rfl fun s _ => ?_
    rw [own_apply, own_apply]
    refine congrArg₂ (· * ·) ((slice_mark x W route E sw c 15 s t).trans ?_) ((slice_reply x W route E sw c 15 s f).trans ?_) <;> rw [target_own]

/-- A sum over the devices, taken in the order in which their blocks are put back. -/
theorem sum_devices (h : Dev nD → EReal) (c : Dev nD) (s : EReal) :
    ((s + ∑ a : Fin 4, h (dn c ⟨11 + a.val, by omega⟩)) + ∑ a : Fin 4, h (dn c ⟨7 + a.val, by omega⟩)) + (∑ a : Fin 4, h (dn c ⟨3 + a.val, by omega⟩))
      + (∑ a : Fin 3, h (dn c ⟨a.val, by omega⟩) + h c) = s + ∑ b, h b := by
  have own : c = (⟨(c.val + 15 + 1) % 16, Nat.mod_lt _ (by decide)⟩ : Dev nD) := by revert c; decide
  have e : ∑ b, h b = ∑ k : Fin 16, h ⟨(c.val + k.val + 1) % 16, Nat.mod_lt _ (by decide)⟩ := by
    refine (Function.Bijective.sum_comp (e := fun k : Fin 16 => (⟨(c.val + k.val + 1) % 16, Nat.mod_lt _ (by decide)⟩ : Dev nD)) ?_ h).symm
    revert c
    decide
  have e' : ∑ b, h b = ∑ k : Fin 15, h (dn c k) + h c := by
    rw [e, Fin.sum_univ_castSucc]
    exact congrArg (fun z => ∑ k : Fin 15, h (dn c k) + h z) own.symm
  rw [e']
  generalize h c = own
  generalize hv : (fun k => h (dn c k)) = v
  have hv' : ∀ k, h (dn c k) = v k := fun k => by rw [← hv]
  simp only [hv', Fin.sum_univ_succ, Fin.sum_univ_zero]
  show ((s + (v 11 + (v 12 + (v 13 + (v 14 + 0))))) + (v 7 + (v 8 + (v 9 + (v 10 + 0))))) + (v 3 + (v 4 + (v 5 + (v 6 + 0)))) + ((v 0 + (v 1 + (v 2 + 0))) + own)
    = s + ((v 0 + (v 1 + (v 2 + (v 3 + (v 4 + (v 5 + (v 6 + (v 7 + (v 8 + (v 9 + (v 10 + (v 11 + (v 12 + (v 13 + (v 14 + 0))))))))))))))) + own)
  simp only [add_zero]
  ac_rfl

/-- An output row in terms of the devices' parts. -/
theorem result_parts (c : Dev nD) (t : Fin 128) (f : Fin 1024) :
    resOf AA c (ix2 t f) = sharedAt x sw (tok c t) f + ∑ b, part x W route E sw b c t f := by
  rw [← sum_devices (fun b => part x W route E sw b c t f) c]
  unfold resOf
  rw [last_apply]
  refine congrArg (· + _) ?_
  show (((sharedOf AA c (ix2 t f)) + restored (fourOf AA c 11) (ix2 t f)) + restored (fourOf AA c 7) (ix2 t f)) + restored (fourOf AA c 3) (ix2 t f) = _
  rw [restored_apply, restored_apply, restored_apply, shared_apply]
  rfl

/-! ## Within the capacity -/

/-- Token `t` is routed to one of device `b`'s four experts. -/
def Routed (b : Fin 16) (t : Fin 2048) : Prop := ∃ e : Fin 4, route (ix2 t 0) = BitVec.ofNat 32 (4 * b.val + e.val)
instance (b : Fin 16) (t : Fin 2048) : Decidable (Routed route b t) := inferInstanceAs (Decidable (∃ _ : Fin 4, _))

variable (hx : ∀ i, ∃ r : ℝ, x i = (r : EReal)) (hW : ∀ i, ∃ r : ℝ, W i = (r : EReal))
variable (hcap : ∀ b q : Fin 16, (Finset.univ.filter fun u : Fin 128 => Routed route b (tok q u)).card ≤ 32)

include hx hW in
/-- A masked gate probability is a real that is not negative. -/
theorem masked_real (t : Fin 2048) (e : Fin 64) : ∃ r : ℝ, 0 ≤ r ∧ masked x W route t e = (r : EReal) := by
  obtain ⟨r, hr, h⟩ := prob_real hx hW t e
  unfold masked
  split
  · exact ⟨r, hr.le, by rw [h, mul_one]⟩
  · exact ⟨0, le_rfl, by rw [mul_zero, EReal.coe_zero]⟩

/-- Only a routed token is served. -/
theorem routed_of_here {b q : Fin 16} {t : Fin 128} (h : Here b (chunkAt x W route q).2 t) : Routed route b (tok q t) := by
  by_contra hn
  refine absurd h ?_
  unfold Here
  rw [Finset.sum_eq_zero fun e _ => ?_]
  · exact lt_irrefl _
  · show masked x W route (tok q t) ⟨4 * b.val + e.val, _⟩ = 0
    unfold masked
    rw [if_neg fun h' => hn ⟨e, h'⟩, mul_zero]

include hcap in
/-- Within the capacity every served token has a row. -/
theorem rank_within {b q : Fin 16} {t : Fin 128} (h : Here b (chunkAt x W route q).2 t) : rank b (chunkAt x W route q).2 t < 32 := by
  refine lt_of_lt_of_le (Finset.card_lt_card ((Finset.ssubset_iff_of_subset fun u hu => ?_).mpr ⟨t, ?_, ?_⟩)) (hcap b q)
  · simp only [Finset.mem_filter, Finset.mem_univ, true_and] at hu ⊢
    exact routed_of_here x W route hu.2
  · simp only [Finset.mem_filter, Finset.mem_univ, true_and]
    exact routed_of_here x W route h
  · simp

/-- The product of a token and an expert's matrix. -/
def expertAt (t : Fin 2048) (e : Fin 64) (f : Fin 1024) : EReal := ∑ d : Fin 512, x (ix2 t d) * E (ix3 e d f)

include hx hW hcap in
/-- A device's part: its four experts' products, weighted. -/
theorem part_value (b : Dev nD) (q : Fin 16) (t : Fin 128) (f : Fin 1024) :
    part x W route E sw b q t f = ∑ e : Fin 4, masked x W route (tok q t) ⟨4 * b.val + e.val, by have : b.val < 16 := b.isLt; omega⟩
      * expertAt x E (tok q t) ⟨4 * b.val + e.val, by have : b.val < 16 := b.isLt; omega⟩ f := by
  refine (back b (chunkAt x W route q).2 (ewbOf (argsOf x W route E sw b)) (chunkAt x W route q).1 (fun t e => masked_real x W route hx hW (tok q t) e) t (fun h => rank_within x W route hcap h) f).trans ?_
  refine Finset.sum_congr rfl fun e _ => congrArg₂ (· * ·) rfl (Finset.sum_congr rfl fun d _ => congrArg₂ (· * ·) rfl ?_)
  exact ewbOf_apply x W route E sw b e d f

include hx hW hcap in
/-- An output row: the shared product and all experts' products, weighted. -/
theorem result_value (c : Dev nD) (t : Fin 128) (f : Fin 1024) :
    resOf AA c (ix2 t f) = sharedAt x sw (tok c t) f + ∑ e : Fin 64, masked x W route (tok c t) e * expertAt x E (tok c t) e f := by
  rw [result_parts, sum_runs (n := 16) (k := 4) rfl _ (fun a c => by omega)]
  exact congrArg _ (Finset.sum_congr rfl fun b _ => part_value x W route E sw hx hW hcap b c t f)

end Cert.KernelIdeal.Ring
-- ==== Proof.Value.lean ====
/-
  The value claim: what the devices leave, put together, is the reference's result.

  The reference's result, the arguments each device's body starts from, and the precondition are each read element by
  element; `result_value` (Proof/Exchange.lean) then joins them.
-/
module

public import proofs.«01_k».proof.Defs
public import proofs.«01_k».proof.Proof.Exchange
public import proofs.«01_k».proof.Proof.Launch
public import proofs.«01_k».proof.Proof.Gen.ReferenceIdeal
public import proofs.«01_k».proof.Proof.Gen.ReferenceIdeal.Run
public import proofs.«01_k».proof.Proof.Gen.Pre_finite_and_within_capacity_KernelIdeal
public import Idealize.ShloMosaic.Lib.Layout
public import Idealize.ShloMosaic.Lib.IndicatorCount
public import Idealize.ShloMosaic.Lib.Pointwise
public import Idealize.ShloMosaic.PureOps.Ideal.Laws

@[expose] public section

noncomputable section

namespace Cert.Proof

open Idealize.ShloMosaic Idealize.ShloMosaic.TcCoe Idealize.SL.Sem
open Cert.KernelIdeal.Ring

/-! ## The reference's result -/

/-- The reference's result: the shared product and the chosen experts' products, weighted. -/
def refAt (x : Tokens) (W : Router) (route : Routes) (E : Experts) (sw : Matrix) (t : Fin 2048) (f : Fin 1024) : EReal :=
  sharedAt x sw t f + ∑ e : Fin 64, masked x W route t e * expertAt x E t e f

/-- A choice between a product and zero is a product with the choice. -/
theorem choose_mul (a b : BitVec 32) (p y : EReal) : (if IntOp.cmpi .eq a b = 1#1 then p * y else 0) = (p * if a = b then 1 else 0) * y := by
  rw [show IntOp.cmpi .eq a b = BitVec.ofBool (decide (a = b)) from rfl]
  by_cases h : a = b
  · simp [h]
  · simp [h]

/-- Every run of the reference ends with `refAt` and leaves the arguments as they were. -/
theorem reference_run (m : (ℓ : Loc Cert.ReferenceIdeal.nD Cert.ReferenceIdeal.τ Cert.ReferenceIdeal.sig) → Buf (Elt Ideal) ℓ)
    (ρ : Dev Cert.ReferenceIdeal.nD → PrngReg) (c : Dev Cert.ReferenceIdeal.nD) (x : Tokens) (W : Router) (route : Routes) (E : Experts) (sw : Matrix)
    (h0 : m ((c.tc : Thread Cert.ReferenceIdeal.nD Cert.ReferenceIdeal.τ).loc Cert.ReferenceIdeal.main_arg0) = x)
    (h1 : m ((c.tc : Thread Cert.ReferenceIdeal.nD Cert.ReferenceIdeal.τ).loc Cert.ReferenceIdeal.main_arg1) = W)
    (h2 : m ((c.tc : Thread Cert.ReferenceIdeal.nD Cert.ReferenceIdeal.τ).loc Cert.ReferenceIdeal.main_arg2) = route)
    (h3 : m ((c.tc : Thread Cert.ReferenceIdeal.nD Cert.ReferenceIdeal.τ).loc Cert.ReferenceIdeal.main_arg3) = E)
    (h4 : m ((c.tc : Thread Cert.ReferenceIdeal.nD Cert.ReferenceIdeal.τ).loc Cert.ReferenceIdeal.main_arg4) = sw) :
    θ_run (Cert.ReferenceIdeal.defs (F := Ideal)) (onTc (τ := Cert.ReferenceIdeal.τ) (Cert.ReferenceIdeal.main (F := Ideal))) ⟨m, fun _ => 0, ρ⟩ fun r =>
      r.2.mem ((c.tc : Thread Cert.ReferenceIdeal.nD Cert.ReferenceIdeal.τ).loc Cert.ReferenceIdeal.main_v23) = (fun i => refAt x W route E sw (i 0) (i 1))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4) := by
  refine (θ_run Cert.ReferenceIdeal.defs _ _).mono (fun r h => ⟨(h c).1.trans ?_, (h c).2⟩) (Cert.ReferenceIdeal.Value.run m ρ)
  rw [h0, h1, h2, h3, h4]
  funext i
  obtain ⟨t, f, rfl⟩ : ∃ t f, i = (ix2 t f : Cert.ReferenceIdeal.S2048x1024.Idx) := ⟨i 0, i 1, (ix2_eta i).symm⟩
  show _ = refAt x W route E sw t f
  pointwise []
  refine congrArg₂ (· + ·) rfl (Finset.sum_congr rfl fun e _ => ?_)
  refine Eq.trans ?_ (choose_mul (route (ix2 t 0)) (BitVec.ofNat 32 e.val) (prob x W t e) (expertAt x E t e f))
  exact congrArg (fun z => if IntOp.cmpi .eq (route (ix2 t 0)) (BitVec.ofNat 32 e.val) = 1#1 then prob x W t e * expertAt x E t e f else z)
    (show Ideal.ofBits .f32 0#32 = 0 by simp [Ideal.ofBits, Ideal.ieee])

/-! ## What the bodies start from -/

/-- A comparison as a float: one or zero. -/
theorem onehot_word (a b : BitVec 32) : FloatOps.uitofp (F := Ideal) FTy.bf16 (IntOp.cmpi .eq a b) = if a = b then (1 : EReal) else 0 := by
  rw [show IntOp.cmpi .eq a b = BitVec.ofBool (decide (a = b)) from rfl]
  by_cases h : a = b <;> simp [h, FloatOps.uitofp]

open Cert.KernelIdeal in
/-- The host's transpose and one-hot matrix, and the device's four experts. -/
theorem args_eq (m : (ℓ : Loc nD τ sig) → Buf (Elt Ideal) ℓ) (c : Dev nD) (x : Tokens) (W : Router) (route : Routes) (E : Experts) (sw : Matrix)
    (h0 : m ((c.tc : Thread nD τ).loc main_arg0) = x) (h1 : m ((c.tc : Thread nD τ).loc main_arg1) = W) (h2 : m ((c.tc : Thread nD τ).loc main_arg2) = route)
    (h3 : m ((c.tc : Thread nD τ).loc main_arg3) = Layout.block ⟨3, ![4, 512, 1024]⟩ ⟨3, ![64, 512, 1024]⟩ 0 16 c E)
    (h4 : m ((c.tc : Thread nD τ).loc main_arg4) = sw) : A m c = argsOf x W route E sw c := by
  unfold A argsOf
  rw [Args.mk.injEq]
  refine ⟨?_, ?_, ?_, ?_, ?_⟩
  · exact h0
  · have e : V₁ m c main_v1 = transpose S64x512 [1, 0] (m ((c.tc : Thread nD τ).loc main_arg1)) Facts₀.transposes_S512x64_S64x512_1_0 := by
      after_results
    rw [e, h1]
    funext i
    rw [eq_ix2 i]
    pointwise []
  · have e : V₁ m c main_v7 = uitofp (F := Ideal) .bf16 (cmpi .eq (broadcastInDim S2048x64 ![0, 1] Gen.bcast_S2048x1_S2048x64_0_1 (m ((c.tc : Thread nD τ).loc main_arg2)))
        (broadcastInDim S2048x64 ![0, 1] Gen.bcast_S1x64_S2048x64_0_1 (broadcastInDim S1x64 ![1] Gen.bcast_S64_S1x64_1 (iotaInDim S64 32 0)))) := by
      after_results
    rw [e, h2]
    funext i
    rw [eq_ix2 i]
    pointwise []
    exact onehot_word _ _
  · refine Eq.trans (show V₁ m c main_arg3 = m ((c.tc : Thread nD τ).loc main_arg3) from ?_) (h3.trans ?_)
    · after_results
    · funext i
      rw [Layout.block_apply]
      refine congrArg E (funext fun a => Fin.ext ?_)
      match a with
      | ⟨0, _⟩ => show c.val * 4 + (i 0).val = 4 * c.val + (i 0).val; rw [Nat.mul_comm]
      | ⟨1, _⟩ => rfl
      | ⟨2, _⟩ => rfl
  · exact h4

/-! ## The precondition -/

/-- A routed token is one that the precondition counts. -/
theorem counted (b : Fin 16) (e : Fin 4) :
    IntOp.andi (IntOp.cmpi .sge (BitVec.ofNat 32 (4 * b.val + e.val)) (IntOp.muli 4#32 (BitVec.ofNat 32 b.val)))
      (IntOp.cmpi .slt (BitVec.ofNat 32 (4 * b.val + e.val)) (IntOp.addi (IntOp.muli 4#32 (BitVec.ofNat 32 b.val)) 4#32)) = 1#1 := by
  revert b e
  decide

/-- A count within the limit, as a word, is within it. -/
theorem count_le (n : ℕ) (hn : n ≤ 128) (h : IntOp.cmpi .sle (BitVec.ofNat 32 n) 32#32 = 1#1) : n ≤ 32 := by
  by_contra hc
  refine absurd h ?_
  rw [show IntOp.cmpi .sle (BitVec.ofNat 32 n) 32#32 = BitVec.ofBool (BitVec.sle (BitVec.ofNat 32 n) 32#32) from rfl]
  have h1 : (BitVec.ofNat 32 n).toNat = n := by rw [BitVec.toNat_ofNat]; omega
  have : BitVec.sle (BitVec.ofNat 32 n) 32#32 = false := by
    rw [BitVec.sle_eq_decide, decide_eq_false_iff_not]
    rw [BitVec.toInt_eq_toNat_of_lt (by rw [h1]; omega), h1]
    show ¬ (n : ℤ) ≤ 32
    omega
  rw [this]
  decide

/-- A float whose magnitude is below infinity is a real. -/
theorem real_of_abs_lt (v : EReal) (h : BitVec.ofBool (decide (max v (-v) < Ideal.ofBits .f32 0x7F800000#32)) = 1#1) : ∃ r : ℝ, v = (r : EReal) := by
  rw [ofBits_inf] at h
  induction v with
  | bot => simp at h
  | top => simp at h
  | coe r => exact ⟨r, rfl⟩

section Pre
open Cert.KernelIdeal Cert.Pre_finite_and_within_capacity_KernelIdeal

variable (x : FVec Ideal ⟨2, ![2048, 512]⟩ .f32) (W : FVec Ideal ⟨2, ![512, 64]⟩ .f32) (route : IVec ⟨2, ![2048, 1]⟩ 32)
  (E : FVec Ideal ⟨3, ![4, 512, 1024]⟩ .f32) (sw : FVec Ideal ⟨2, ![512, 1024]⟩ .f32)

/-- The precondition's counts: no device has more than 32 of a chunk's tokens. -/
theorem capacity_of_pre (h : (fn (F := Ideal) x W route E sw).2.2 = fun _ => 1#1) (b q : Fin 16) :
    (Finset.univ.filter fun u : Fin 128 => Routed route b (tok q u)).card ≤ 32 := by
  have h' := congrFun h (ix2 q b)
  revert h'
  pointwise [fn, fn_part1]
  rw [IndicatorCount.fold_addi_setWidth_eq_card]
  intro h'
  refine (Finset.card_le_card fun u hu => ?_).trans (count_le _ ((Finset.card_le_univ _).trans (by simp)) h')
  obtain ⟨e, he⟩ := (Finset.mem_filter.mp hu).2
  refine Finset.mem_filter.mpr ⟨Finset.mem_univ _, ?_⟩
  rw [show (⟨q.val * 128 + u.val, by omega⟩ : Fin 2048) = tok q u from Fin.ext (by dsimp only; omega), he]
  exact counted b e

/-- The precondition's finiteness of the tokens. -/
theorem tokens_real (h : (fn (F := Ideal) x W route E sw).1 = fun _ => 1#1) (i : (⟨2, ![2048, 512]⟩ : Shape).Idx) : ∃ r : ℝ, x i = (r : EReal) := by
  refine real_of_abs_lt _ (Eq.trans ?_ (congrFun h i))
  rw [eq_ix2 i]
  pointwise [fn, fn_part1]
  rfl

/-- The precondition's finiteness of the router's matrix. -/
theorem router_real (h : (fn (F := Ideal) x W route E sw).2.1 = fun _ => 1#1) (i : (⟨2, ![512, 64]⟩ : Shape).Idx) : ∃ r : ℝ, W i = (r : EReal) := by
  refine real_of_abs_lt _ (Eq.trans ?_ (congrFun h i))
  rw [eq_ix2 i]
  pointwise [fn, fn_part1]
  rfl

end Pre

/-! ## The claim -/

/-- What the devices leave, put together, is the reference's result, and all arguments stay as they were. -/
theorem algebraic : Cert.algebraic_KernelIdeal_ReferenceIdeal_pre_finite_and_within_capacity_KernelIdeal
    (hKernelIdeal := Cert.KernelIdeal.Gen.facts) (hReferenceIdeal := Cert.ReferenceIdeal.Gen.facts)
    (hPre_finite_and_within_capacity_KernelIdeal := Cert.Pre_finite_and_within_capacity_KernelIdeal.Gen.facts) := fun m ρ m' ρ' hpre hargs => by
  refine ⟨_, (θ_run Cert.KernelIdeal.defs _ _).mono (fun r h c => ⟨(h.1 c).2.trans ?_, (h.1 c).1⟩) (run_main m ρ), reference_run m' ρ' 0 _ _ _ _ _ rfl rfl rfl rfl rfl⟩
  obtain ⟨p1, p2, p3⟩ := hpre c
  obtain ⟨h0, h1, h2, h3, h4⟩ := hargs c
  have hA : A m = argsOf _ _ _ _ _ := funext fun c => args_eq m c _ _ _ _ _ (hargs c).1 (hargs c).2.1 (hargs c).2.2.1 (hargs c).2.2.2.1 (hargs c).2.2.2.2
  have hx := tokens_real _ _ _ _ _ p1
  have hW := router_real _ _ _ _ _ p2
  have hcap := capacity_of_pre _ _ _ _ _ p3
  rw [h0] at hx
  rw [h1] at hW
  rw [h2] at hcap
  rw [hA]
  funext i
  refine (congrArg (resOf _ c) (eq_ix2 i)).trans ((result_value _ _ _ _ _ hx hW hcap c (i 0) (i 1)).trans ?_)
  rw [Layout.block_apply]
  exact congrArg₂ (refAt _ _ _ _ _) (Fin.ext (by show 128 * c.val + (i 0).val = c.val * 128 + (i 0).val; rw [Nat.mul_comm])) rfl

end Cert.Proof

end
-- ==== Proof.lean ====
/-
  The proof of `Cert.Claim`: the frames of the kernel's two texts and of the reference (Proof/Frames.lean), that the ideal
  text is the kernel's own, and that the kernel computes what the reference computes (Proof/Value.lean).
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.Pre_finite_and_within_capacity_KernelIdeal
public import proofs.«01_k».proof.Proof.Gen.Pre_finite_and_within_capacity_ReferenceIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Value

@[expose] public section

noncomputable section

namespace Cert.Proof

/-- All claims: the frames, with and without the precondition, that the ideal text is the kernel's own, and the value. -/
theorem claim : Cert.Claim := ⟨Cert.Kernel.Gen.facts, Cert.KernelIdeal.Gen.facts, Cert.ReferenceIdeal.Gen.facts,
  Cert.Pre_finite_and_within_capacity_KernelIdeal.Gen.facts, Cert.Pre_finite_and_within_capacity_ReferenceIdeal.Gen.facts,
  frame_kernel, frame_ideal, fun m ρ _ => frame_ideal m ρ trivial, frame_reference, fun m ρ _ => frame_reference m ρ trivial, trivial, algebraic⟩

end Cert.Proof

end
